-- ==== Defs.lean ====
def Pre_Kernel [hPre_idx_in_vocab : Cert.Pre_idx_in_vocab.Facts] (m : (ℓ : Loc Cert.Kernel.nD Cert.Kernel.τ Cert.Kernel.sig) → Buf (Elt Bits) ℓ) : Prop :=
  ∀ c : Dev Cert.Kernel.nD,
    (Cert.Pre_idx_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_idx_in_vocab : Cert.Pre_idx_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_vocab [hPre_idx_in_vocab : Cert.Pre_idx_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_idx_in_vocab : Cert.Pre_idx_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_idx_in_vocab : Cert.Pre_idx_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_idx_in_vocab [hReferenceIdeal : Cert.ReferenceIdeal.Facts] [hPre_idx_in_vocab : Cert.Pre_idx_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_vocab : Cert.Pre_idx_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_idx_in_vocab : Cert.Pre_idx_in_vocab.Facts),
    quiescent_Kernel (hKernel := hKernel) (hPre_idx_in_vocab := hPre_idx_in_vocab)
    ∧ quiescent_KernelIdeal (hKernelIdeal := hKernelIdeal) (hPre_idx_in_vocab := hPre_idx_in_vocab)
    ∧ quiescent_ReferenceIdeal (hReferenceIdeal := hReferenceIdeal)
    ∧ quiescent_ReferenceIdeal_pre_idx_in_vocab (hReferenceIdeal := hReferenceIdeal) (hPre_idx_in_vocab := hPre_idx_in_vocab)
    ∧ preserves_Kernel_KernelIdeal
    ∧ algebraic_KernelIdeal_ReferenceIdeal (hKernelIdeal := hKernelIdeal) (hReferenceIdeal := hReferenceIdeal) (hPre_idx_in_vocab := hPre_idx_in_vocab)
-- ==== Pre_idx_in_vocab.lean ====
abbrev S1024x5 : Shape := ⟨2, ![1024, 5]⟩
abbrev S100000x16 : Shape := ⟨2, ![100000, 16]⟩
abbrev S80x64 : Shape := ⟨2, ![80, 64]⟩
abbrev S64 : Shape := ⟨1, ![64]⟩
abbrev S64x100000 : Shape := ⟨2, ![64, 100000]⟩
abbrev S100000 : Shape := ⟨1, ![100000]⟩
abbrev S_ : Shape := ⟨0, ![]⟩

class Facts : Prop where
  bcast_S_S1024x5 : S_.BroadcastsInDim S1024x5 (![] : Fin 0 → Fin S1024x5.rank)

variable [Facts]

def fn {F : FTy → Type} [FloatOps F] (main_arg0 : IVec S1024x5 32) (main_arg1 : FVec F S100000x16 .f32) (main_arg2 : FVec F S80x64 .f32) (main_arg3 : FVec F S64 .f32) (main_arg4 : FVec F S64x100000 .f32) (main_arg5 : FVec F S100000 .f32) : IVec S1024x5 1 :=
  let main_c : IVec S_ 32 := constantI S_ 32 0#32
  let main_v0 : IVec S1024x5 32 := broadcastInDim S1024x5 ![] bcast_S_S1024x5 main_c
  let main_v1 : IVec S1024x5 1 := cmpi .sge main_arg0 main_v0
  let main_c_0 : IVec S_ 32 := constantI S_ 32 100000#32
  let main_v2 : IVec S1024x5 32 := broadcastInDim S1024x5 ![] bcast_S_S1024x5 main_c_0
  let main_v3 : IVec S1024x5 1 := cmpi .slt main_arg0 main_v2
  let main_v4 : IVec S1024x5 1 := andi main_v1 main_v3
  main_v4
-- ==== Kernel.lean ====
abbrev S1024x5 : Shape := ⟨2, ![1024, 5]⟩
abbrev S100000x16 : Shape := ⟨2, ![100000, 16]⟩
abbrev S80x64 : Shape := ⟨2, ![80, 64]⟩
abbrev S64 : Shape := ⟨1, ![64]⟩
abbrev S64x100000 : Shape := ⟨2, ![64, 100000]⟩
abbrev S100000 : Shape := ⟨1, ![100000]⟩
abbrev S5x1024 : Shape := ⟨2, ![5, 1024]⟩
abbrev S5120 : Shape := ⟨1, ![5120]⟩
abbrev S16x100000 : Shape := ⟨2, ![16, 100000]⟩
abbrev S16x5120 : Shape := ⟨2, ![16, 5120]⟩
abbrev S160 : Shape := ⟨1, ![160]⟩
abbrev S16x160 : Shape := ⟨2, ![16, 160]⟩
abbrev S_ : Shape := ⟨0, ![]⟩
abbrev S1x160 : Shape := ⟨2, ![1, 160]⟩
abbrev S1x100000 : Shape := ⟨2, ![1, 100000]⟩
abbrev S1x64 : Shape := ⟨2, ![1, 64]⟩
abbrev S100000x1024 : Shape := ⟨2, ![100000, 1024]⟩
abbrev S64x4096 : Shape := ⟨2, ![64, 4096]⟩
abbrev S1x4096 : Shape := ⟨2, ![1, 4096]⟩
abbrev S4096x1024 : Shape := ⟨2, ![4096, 1024]⟩
abbrev S1024x64 : Shape := ⟨2, ![1024, 64]⟩
abbrev S16x1024 : Shape := ⟨2, ![16, 1024]⟩
abbrev S16x64 : Shape := ⟨2, ![16, 64]⟩
abbrev S4096 : Shape := ⟨1, ![4096]⟩
abbrev S4096x1 : Shape := ⟨2, ![4096, 1]⟩
abbrev S1024x100000 : Shape := ⟨2, ![1024, 100000]⟩

abbrev nBuf : Table → Nat
  | .hbm => 14
  | .local .tc .vmem => 10
  | .local .scVector .vmem => 2
  | _ => 0

abbrev bufTy : (tb : Table) → Fin (nBuf tb) → BufTy
  | .hbm, ⟨0, _⟩ => ⟨S1024x5, .i32⟩
  | .hbm, ⟨1, _⟩ => ⟨S100000x16, .f32⟩
  | .hbm, ⟨2, _⟩ => ⟨S80x64, .f32⟩
  | .hbm, ⟨3, _⟩ => ⟨S64, .f32⟩
  | .hbm, ⟨4, _⟩ => ⟨S64x100000, .f32⟩
  | .hbm, ⟨5, _⟩ => ⟨S100000, .f32⟩
  | .hbm, ⟨6, _⟩ => ⟨S5x1024, .i32⟩
  | .hbm, ⟨7, _⟩ => ⟨S5120, .i32⟩
  | .hbm, ⟨8, _⟩ => ⟨S16x100000, .f32⟩
  | .hbm, ⟨9, _⟩ => ⟨S16x5120, .f32⟩
  | .hbm, ⟨10, _⟩ => ⟨S1x64, .f32⟩
  | .hbm, ⟨11, _⟩ => ⟨S1x100000, .f32⟩
  | .hbm, ⟨12, _⟩ => ⟨S100000x1024, .f32⟩
  | .hbm, ⟨13, _⟩ => ⟨S1024x100000, .f32⟩
  | .local .tc .vmem, ⟨0, _⟩ => ⟨S16x5120, .f32⟩
  | .local .tc .vmem, ⟨1, _⟩ => ⟨S80x64, .f32⟩
  | .local .tc .vmem, ⟨2, _⟩ => ⟨S1x64, .f32⟩
  | .local .tc .vmem, ⟨3, _⟩ => ⟨S64x4096, .f32⟩
  | .local .tc .vmem, ⟨4, _⟩ => ⟨S64x4096, .f32⟩
  | .local .tc .vmem, ⟨5, _⟩ => ⟨S1x4096, .f32⟩
  | .local .tc .vmem, ⟨6, _⟩ => ⟨S1x4096, .f32⟩
  | .local .tc .vmem, ⟨7, _⟩ => ⟨S4096x1024, .f32⟩
  | .local .tc .vmem, ⟨8, _⟩ => ⟨S4096x1024, .f32⟩
  | .local .tc .vmem, ⟨9, _⟩ => ⟨S1024x64, .f32⟩
  | .local .scVector .vmem, ⟨0, _⟩ => ⟨S160, .i32⟩
  | .local .scVector .vmem, ⟨1, _⟩ => ⟨S16x160, .f32⟩
  | _, _ => ⟨S1024x5, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v2_scv : Ref sig .scVector := ⟨.hbm, 8, rfl⟩
abbrev main_v1_scv : Ref sig .scVector := ⟨.hbm, 7, rfl⟩
abbrev main_v3_scv : Ref sig .scVector := ⟨.hbm, 9, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg3_1 : Ref sig .tc := ⟨.vmem, 4, rfl⟩
abbrev cc1_stg4_0 : Ref sig .tc := ⟨.vmem, 5, rfl⟩
abbrev cc1_stg4_1 : Ref sig .tc := ⟨.vmem, 6, rfl⟩
abbrev cc1_stg5_0 : Ref sig .tc := ⟨.vmem, 7, rfl⟩
abbrev cc1_stg5_1 : Ref sig .tc := ⟨.vmem, 8, rfl⟩
abbrev cc1_scratch0 : Ref sig .tc := ⟨.vmem, 9, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem3_1 : DmaSem sig := 7
abbrev cc1_sem4_0 : DmaSem sig := 8
abbrev cc1_sem4_1 : DmaSem sig := 9
abbrev cc1_sem5_0 : DmaSem sig := 10
abbrev cc1_sem5_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  ![v2.toNat]
def k0_off2 (i : grid0.Coords) : Fin 2 → Nat :=
  let c0_i32_145_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  ![0, v2.toNat]
abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S16x5120 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S80x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x5 : Shape := ⟨2, ![1024, 5]⟩
abbrev S100000x16 : Shape := ⟨2, ![100000, 16]⟩
abbrev S80x64 : Shape := ⟨2, ![80, 64]⟩
abbrev S64 : Shape := ⟨1, ![64]⟩
abbrev S64x100000 : Shape := ⟨2, ![64, 100000]⟩
abbrev S100000 : Shape := ⟨1, ![100000]⟩
abbrev S_ : Shape := ⟨0, ![]⟩
abbrev S1024x5x1 : Shape := ⟨3, ![1024, 5, 1]⟩
abbrev S1 : Shape := ⟨1, ![1]⟩
abbrev S1x1x1 : Shape := ⟨3, ![1, 1, 1]⟩
abbrev S1024x5x16 : Shape := ⟨3, ![1024, 5, 16]⟩
abbrev S1024x80 : Shape := ⟨2, ![1024, 80]⟩
abbrev S1024x64 : Shape := ⟨2, ![1024, 64]⟩
abbrev S1x64 : Shape := ⟨2, ![1, 64]⟩
abbrev S1024x100000 : Shape := ⟨2, ![1024, 100000]⟩
abbrev S1x100000 : Shape := ⟨2, ![1, 100000]⟩

abbrev nBuf : Space → Nat
  | .hbm => 41
  | .vmem => 0
  | .smem => 0
  | _ => 0

abbrev bufTy : (tb : Table) → Fin (tcTables nBuf tb) → BufTy
  | .hbm, ⟨0, _⟩ => ⟨S1024x5, .i32⟩
  | .hbm, ⟨1, _⟩ => ⟨S100000x16, .f32⟩
  | .hbm, ⟨2, _⟩ => ⟨S80x64, .f32⟩
  | .hbm, ⟨3, _⟩ => ⟨S64, .f32⟩
  | .hbm, ⟨4, _⟩ => ⟨S64x100000, .f32⟩
  | .hbm, ⟨5, _⟩ => ⟨S100000, .f32⟩
  | .hbm, ⟨6, _⟩ => ⟨S_, .i32⟩
  | .hbm, ⟨7, _⟩ => ⟨S1024x5, .i32⟩
  | .hbm, ⟨8, _⟩ => ⟨S1024x5, .i1⟩
  | .hbm, ⟨9, _⟩ => ⟨S_, .i32⟩
  | .hbm, ⟨10, _⟩ => ⟨S1024x5, .i32⟩
  | .hbm, ⟨11, _⟩ => ⟨S1024x5, .i32⟩
  | .hbm, ⟨12, _⟩ => ⟨S1024x5, .i32⟩
  | .hbm, ⟨13, _⟩ => ⟨S1024x5x1, .i32⟩
  | .hbm, ⟨14, _⟩ => ⟨S1, .i32⟩
  | .hbm, ⟨15, _⟩ => ⟨S_, .i32⟩
  | .hbm, ⟨16, _⟩ => ⟨S1024x5x1, .i32⟩
  | .hbm, ⟨17, _⟩ => ⟨S1024x5x1, .i1⟩
  | .hbm, ⟨18, _⟩ => ⟨S1x1x1, .i32⟩
  | .hbm, ⟨19, _⟩ => ⟨S1024x5x1, .i32⟩
  | .hbm, ⟨20, _⟩ => ⟨S1024x5x1, .i1⟩
  | .hbm, ⟨21, _⟩ => ⟨S1024x5x1, .i1⟩
  | .hbm, ⟨22, _⟩ => ⟨S_, .i1⟩
  | .hbm, ⟨23, _⟩ => ⟨S1024x5, .i1⟩
  | .hbm, ⟨24, _⟩ => ⟨S1024x5x16, .f32⟩
  | .hbm, ⟨25, _⟩ => ⟨S1024x5x16, .i1⟩
  | .hbm, ⟨26, _⟩ => ⟨S_, .f32⟩
  | .hbm, ⟨27, _⟩ => ⟨S1024x5x16, .f32⟩
  | .hbm, ⟨28, _⟩ => ⟨S1024x5x16, .f32⟩
  | .hbm, ⟨29, _⟩ => ⟨S1024x80, .f32⟩
  | .hbm, ⟨30, _⟩ => ⟨S1024x64, .f32⟩
  | .hbm, ⟨31, _⟩ => ⟨S1x64, .f32⟩
  | .hbm, ⟨32, _⟩ => ⟨S1024x64, .f32⟩
  | .hbm, ⟨33, _⟩ => ⟨S1024x64, .f32⟩
  | .hbm, ⟨34, _⟩ => ⟨S_, .f32⟩
  | .hbm, ⟨35, _⟩ => ⟨S1024x64, .f32⟩
  | .hbm, ⟨36, _⟩ => ⟨S1024x64, .f32⟩
  | .hbm, ⟨37, _⟩ => ⟨S1024x100000, .f32⟩
  | .hbm, ⟨38, _⟩ => ⟨S1x100000, .f32⟩
  | .hbm, ⟨39, _⟩ => ⟨S1024x100000, .f32⟩
  | .hbm, ⟨40, _⟩ => ⟨S1024x100000, .f32⟩
  | _, _ => ⟨S1024x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_call1_cst : Ref sig .tc := ⟨.hbm, 34, rfl⟩
abbrev main_call1_v0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩

abbrev nD : Nat := 1
abbrev τ : Topo := Topo.v7x

variable {F : FTy → Type} [FloatOps F]
-- ==== Proof.Setup.lean ====
/-
  The program as the launch theorem sees it, the certificate's ghost algebra, and the arrays and scratch of the
  SparseCore call: the table, the index list, the gathered rows, each tile's part of them, and each tile's share of the
  two arrays that every tile reads.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ValueIdx
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Proof.Setup

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds: the middle factor. -/
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- The launch element splits into the handshakes', the pipeline's and the counters' parts. -/
theorem ownU_parts (a : UH) (b : UP) (c : Counters) :
    (ownU ((a, (b, c)) : UU) : sProp 𝕄) ⊢ iprop(BI.own (EH a) ∗ BI.own (EP b)) := by
  have h1 : (ownU ((a, (b, c)) : UU) : sProp 𝕄) ⊢ iprop(BI.own (EH a) ∗ BI.own ((embR : Emb (UP × Counters) 𝕄) (b, c))) := ownU_pair a (b, c)
  refine h1.trans (sep_mono_right ?_)
  have h2 : (BI.own ((embR : Emb (UP × Counters) 𝕄) (b, c)) : sProp 𝕄)
      ⊢ iprop(BI.own ((embR : Emb (UP × Counters) 𝕄) (b, 1)) ∗ BI.own ((embR : Emb (UP × Counters) 𝕄) (1, c))) :=
    BI.own_op_elim ((embR : Emb (UP × Counters) 𝕄).op_of_mem (Prod.mk_mem_op (URA.mem_op_one b) (URA.mem_one_op c)))
  refine h2.trans ?_
  iintro ⟨H, -⟩
  iexact H

/-! ## The arrays and the scratch -/

abbrev tLoc (d : Dev nD) : Loc nD τ sig := (SparseCore.T d).loc main_v2
abbrev iLoc (d : Dev nD) : Loc nD τ sig := (SparseCore.T d).loc main_v1
abbrev oLoc (d : Dev nD) : Loc nD τ sig := (SparseCore.T d).loc main_v3

abbrev tV : Memref sig .scVector .hbm S16x100000 .f32 := Memref.whole main_v2_scv
abbrev iV : Memref sig .scVector .hbm S5120 .i32 := Memref.whole main_v1_scv
abbrev oV : Memref sig .scVector .hbm S16x5120 .f32 := Memref.whole main_v3_scv
abbrev sV : Memref sig .scVector .vmem S160 .i32 := Memref.whole cc0_scratch0
abbrev rV : Memref sig .scVector .vmem S16x160 .f32 := Memref.whole cc0_scratch1

/-! ## The gathered rows -/

/-- The table entry that word `w` names in row `k`. -/
def entryAt (tb : S16x100000.Idx → Elt F .f32) (k : Fin 16) (w : BitVec 32) : Elt F .f32 :=
  tb (ix2 k ⟨w.toNat % 100000, Nat.mod_lt _ (by decide)⟩)

/-- What the call leaves in its output: row `k`, column `p` holds row `k` of the table at the `p`-th index. -/
def gathered (tb : S16x100000.Idx → Elt F .f32) (ix : S5120.Idx → Elt F .i32) : S16x5120.Idx → Elt F .f32 :=
  fun j => entryAt tb (j 0) (ix (ix1 (j 1)))

/-! ## The output's parts: one block of columns per tile -/

theorem odiv : 32 ∣ S16x5120.size 1 := ⟨160, rfl⟩
/-- Tile `i` of SparseCore `c` takes the `2 i + c`-th of the 32 blocks of columns. -/
abbrev oRect (c : Fin 2) (i : Fin 16) : Rect S16x5120 := Rect.part (s := S16x5120) (a₀ := 1) odiv ⟨2 * i.val + c.val, by omega⟩
abbrev oSet (c : Fin 2) (i : Fin 16) : Finset S16x5120.Idx := (oRect c i).set
/-- All the blocks of SparseCore `c`. -/
abbrev oCoreSet (c : Fin 2) : Finset S16x5120.Idx := (Finset.univ : Finset (Fin 16)).biUnion (oSet c)

theorem oSet_disjoint (c c' : Fin 2) (i i' : Fin 16) (h : (c, i) ≠ (c', i')) : Disjoint (oSet c i) (oSet c' i') := by
  refine Rect.part_disjoint odiv fun e => h ?_
  have := Fin.mk.inj e
  exact Prod.ext (Fin.ext (by show c.val = c'.val; omega)) (Fin.ext (by show i.val = i'.val; omega))

theorem oSets_disjoint (c : Fin 2) : ∀ i ∈ (Finset.univ : Finset (Fin 16)), ∀ i' ∈ (Finset.univ : Finset (Fin 16)), i ≠ i' → Disjoint (oSet c i) (oSet c i') :=
  fun i _ i' _ h => oSet_disjoint c c i i' fun e => h (Prod.mk.inj e).2

theorem oCoreSets_disjoint : ∀ c ∈ (Finset.univ : Finset (Fin 2)), ∀ c' ∈ (Finset.univ : Finset (Fin 2)), c ≠ c' → Disjoint (oCoreSet c) (oCoreSet c') := by
  intro c _ c' _ h
  rw [Finset.disjoint_biUnion_left]
  intro i _
  rw [Finset.disjoint_biUnion_right]
  intro i' _
  exact oSet_disjoint c c' i i' fun e => h (Prod.mk.inj e).1

theorem oCoreSets_cover : (Finset.univ : Finset (Fin 2)).biUnion oCoreSet = Finset.univ := by
  have hp := Rect.biUnion_part odiv
  ext j
  simp only [Finset.mem_univ, iff_true, Finset.mem_biUnion, true_and]
  have hj : j ∈ (Finset.univ : Finset (Fin 32)).biUnion (fun w => (Rect.part (s := S16x5120) (a₀ := 1) odiv w).set) := hp ▸ Finset.mem_univ j
  obtain ⟨w, _, hw⟩ := Finset.mem_biUnion.mp hj
  refine ⟨⟨w.val % 2, Nat.mod_lt _ (by decide)⟩, ⟨w.val / 2, by omega⟩, ?_⟩
  have e : (⟨2 * (w.val / 2) + w.val % 2, by omega⟩ : Fin 32) = w := Fin.ext (by show 2 * (w.val / 2) + w.val % 2 = w.val; omega)
  show j ∈ (Rect.part (s := S16x5120) (a₀ := 1) odiv ⟨2 * (w.val / 2) + w.val % 2, _⟩).set
  rw [e]; exact hw

/-! ## Shares of the arrays that every tile reads: a share cut in `n` pieces -/

/-- SparseCore `c`'s share of the table and of the list. -/
abbrev qC (c : Fin 2) : PosShare TreeShare := pieceOf fullShare 2 (by decide) c
/-- Tile `i` of SparseCore `c`'s share of them. -/
abbrev qT (c : Fin 2) (i : Fin 16) : PosShare TreeShare := pieceOf (qC c) 16 (by decide) i

/-! ## What the handshakes carry -/

section Payloads

variable (tb : Dev nD → S16x100000.Idx → Elt F .f32) (ix : Dev nD → S5120.Idx → Elt F .i32) (o₀ : Dev nD → S16x5120.Idx → Elt F .f32)

abbrev iPts (d : Dev nD) (q : PosShare TreeShare) : sProp 𝕄 := iLoc d ↦{q} (ix d : Buf (Elt F) (iLoc d))
abbrev tPts (d : Dev nD) (q : PosShare TreeShare) : sProp 𝕄 := tLoc d ↦{q} (tb d : Buf (Elt F) (tLoc d))
abbrev oPtsOn (d : Dev nD) (I : Finset S16x5120.Idx) (f : S16x5120.Idx → Elt F .f32) : sProp 𝕄 :=
  oLoc d ↦[(I : Finset (Idx (oLoc d)))]{fullShare} (f : Buf (Elt F) (oLoc d))

/-- What a SparseCore, or a tile, holds of the call: shares of the list and the table, its part of the output. -/
abbrev part (d : Dev nD) (q : PosShare TreeShare) (I : Finset S16x5120.Idx) (f : S16x5120.Idx → Elt F .f32) : sProp 𝕄 :=
  iprop(iPts ix d q ∗ tPts tb d q ∗ oPtsOn d I f)

/-- The call hands SparseCore `c` its shares of the list and the table and its blocks of the output, each tile its
    share and its block; they come back with the blocks holding the gathered rows. -/
def P : (K (F := F)).Pay (nD := nD) (Val := Elt F) (Name := ℕ) (U := UU) where
  st := fun q d c => match q with | 0 => part tb ix d (qC (Fin.cast nCore_zero c)) (oCoreSet (Fin.cast nCore_zero c)) (o₀ d)
  dn := fun q d c => match q with | 0 => part tb ix d (qC (Fin.cast nCore_zero c)) (oCoreSet (Fin.cast nCore_zero c)) (gathered (tb d) (ix d))
  go := fun q d c i => match q with
    | 0 => part tb ix d (qT (Fin.cast nCore_zero c) (Fin.cast nSub_zero i)) (oSet (Fin.cast nCore_zero c) (Fin.cast nSub_zero i)) (o₀ d)
  td := fun q d c i => match q with
    | 0 => part tb ix d (qT (Fin.cast nCore_zero c) (Fin.cast nSub_zero i)) (oSet (Fin.cast nCore_zero c) (Fin.cast nSub_zero i)) (gathered (tb d) (ix d))
  x := fun _ _ => iprop(emp)

instance P_storable : (P (F := F) tb ix o₀).IsStorable where
  st q d c := match q with
    | 0 => (inferInstance : BI.Storable (upEmb : UEmb _ 𝕄) (part tb ix d (qC (Fin.cast nCore_zero c)) (oCoreSet (Fin.cast nCore_zero c)) (o₀ d)))
  dn q d c := match q with
    | 0 => (inferInstance : BI.Storable (upEmb : UEmb _ 𝕄) (part tb ix d (qC (Fin.cast nCore_zero c)) (oCoreSet (Fin.cast nCore_zero c)) (gathered (tb d) (ix d))))
  go q d c i := match q with
    | 0 => (inferInstance : BI.Storable (upEmb : UEmb _ 𝕄)
      (part tb ix d (qT (Fin.cast nCore_zero c) (Fin.cast nSub_zero i)) (oSet (Fin.cast nCore_zero c) (Fin.cast nSub_zero i)) (o₀ d)))
  td q d c i := match q with
    | 0 => (inferInstance : BI.Storable (upEmb : UEmb _ 𝕄)
      (part tb ix d (qT (Fin.cast nCore_zero c) (Fin.cast nSub_zero i)) (oSet (Fin.cast nCore_zero c) (Fin.cast nSub_zero i)) (gathered (tb d) (ix d))))

end Payloads

end Cert.Proof.Setup

end
-- ==== Proof.GatherBatch.lean ====
/-
  Several indirect gathers outstanding on ONE DMA semaphore, waited for afterwards. An indirect gather is a family of
  row transfers, each crediting the semaphore its own row's amount. Issued one behind another on the same semaphore,
  the rows of all the gathers together are one batch of equal transfers: the waits between learn nothing, and once every
  row's amount has been waited for every row has landed. The rule below issues one gather against such a batch.
-/
module

public import Idealize.ShloMosaic.Lib.SparseCore.Stream
public import Idealize.ShloMosaic.Lib.Batch
public import Idealize.ShloMosaic.Lib.Tactic

@[expose] public section

noncomputable section

namespace Cert.Proof.GatherBatch

open Idealize.ShloMosaic
open Idealize.ShloMosaic.SparseCore
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-! ## A run of a batch's issue rights -/

omit [Preorder Lvl] in
/-- The issue rights from `k` on are the next `o` of them and those from `k + o` on. -/
theorem bigSep_pending_run {n : ℕ} (Φ : Fin n → sProp 𝕄) (k : ℕ) : ∀ (o : ℕ) (h : k + o ≤ n),
    bigSep (pending k) Φ = iprop((bigSep Finset.univ fun j : Fin o => Φ ⟨k + j.val, by omega⟩) ∗ bigSep (pending (k + o)) Φ)
  | 0, _ => by
    rw [Finset.univ_eq_empty, bigSep_empty]
    exact Entails.antisymm emp_sep.2 emp_sep.1
  | o + 1, h => by
    have hlast : (bigSep Finset.univ fun j : Fin (o + 1) => Φ ⟨k + j.val, by omega⟩)
        = iprop((bigSep Finset.univ fun j : Fin o => Φ ⟨k + j.val, by omega⟩) ∗ Φ ⟨k + o, by omega⟩) := by
      rw [bigSep_univ_equiv finSumFinEquiv (fun j : Fin (o + 1) => Φ ⟨k + j.val, by omega⟩), bigSep_univ_sum,
        bigSep_univ_of_subsingleton (0 : Fin 1)]
      rfl
    rw [bigSep_pending_run Φ k o (by omega), bigSep_pending_step Φ (k + o) (by omega), hlast]
    refine BI.Entails.antisymm ?_ ?_
    · show iprop((bigSep Finset.univ fun j : Fin o => Φ ⟨k + j.val, by omega⟩) ∗ Φ ⟨k + o, by omega⟩ ∗ bigSep (pending (k + o + 1)) Φ)
        ⊢ iprop(((bigSep Finset.univ fun j : Fin o => Φ ⟨k + j.val, by omega⟩) ∗ Φ ⟨k + o, by omega⟩) ∗ bigSep (pending (k + o + 1)) Φ)
      iintro ⟨H1, H2, H3⟩
      isplitl [H1 H2]
      · isplitl [H1] <;> iassumption
      iexact H3
    · show iprop(((bigSep Finset.univ fun j : Fin o => Φ ⟨k + j.val, by omega⟩) ∗ Φ ⟨k + o, by omega⟩) ∗ bigSep (pending (k + o + 1)) Φ)
        ⊢ iprop((bigSep Finset.univ fun j : Fin o => Φ ⟨k + j.val, by omega⟩) ∗ Φ ⟨k + o, by omega⟩ ∗ bigSep (pending (k + o + 1)) Φ)
      iintro ⟨⟨H1, H2⟩, H3⟩
      isplitl [H1]; · iexact H1
      isplitl [H2] <;> iassumption

/-! ## One gather of the batch -/

section Gather

variable {defs : Defs nD τ sig (Elt F) Λ} (EC : UEmb Counters (MT nD τ sig Ix (Elt F) Name U Lvl)) (𝒱 : Variants)
variable (c : Thread nD τ) (bd : Option 𝒱.V)
variable {sp : Space} {s₀ s si : Shape} {e : EltTy} {a : Nat} {α : Type} {Q : α → sProp (MT nD τ sig Ix (Elt F) Name U Lvl)}

/-- What entry `j` of a gather leaves when its row has landed: its piece of the source's share, its entry of the offset
    list, and row `j` of the destination holding the source's row that the entry names. -/
def entryDone (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop((src.view.loc c ↦[src.view.set]{pieceOf q _ ho j} fs)
    ∗ (offs.view.loc c ↦[{offs.view.emb (si.rowMajor.symm (j.cast hn.symm))}]{qo} fo)
    ∗ (dst.view.loc c ↦[(dst.view.slice (s.rowRect hg.axis' j)).set]{fullShare}
        ((dst.view.slice (s.rowRect hg.axis' j)).write (Elt F) fd
          (fun (i : (s.rowShape hg.axis').Idx) => gatherPayload hg (src.view.read (Elt F) fs) r ((s.rowRect hg.axis' j).emb i)) Finset.univ)))

instance entryDone_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) :
    Storable (upEmb : UEmb _ 𝕄) (entryDone (Ix := Ix) (Name := Name) (U := U) (Lvl := Lvl) c src dst hg offs hn ho q qo fs fd fo r j) := by
  unfold entryDone; infer_instance

/-- All the entries of a gather done: the destination holds the gathered rows, the shares of source and list are whole. -/
theorem entries_done (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) :
    bigSep Finset.univ (entryDone c src dst hg offs hn ho q qo fs fd fo r)
      ⊢ (iprop((dst.view.loc c ↦[dst.view.set]{fullShare}
            (dst.view.write (Elt F) fd (gatherPayload hg (src.view.read (Elt F) fs) r) Finset.univ))
          ∗ (src.view.loc c ↦[src.view.set]{q} fs) ∗ (offs.view.loc c ↦[offs.view.set]{qo} fo)) : sProp 𝕄) := by
  have hen : Function.Bijective fun j : Fin (s.size hg.axis') => si.rowMajor.symm (j.cast hn.symm) :=
    si.rowMajor.symm.bijective.comp (finCongr hn.symm).bijective
  unfold entryDone
  rw [pointsTo_piecesOf src.view.set fs ho q, pointsTo_entries c offs.view _ hen qo fo]
  iintro H
  ihave H := bigSep_sep_out _ _ _ $$ H
  icases H with ⟨Hs, H⟩
  ihave H := bigSep_sep_out _ _ _ $$ H
  icases H with ⟨Ho, Hd⟩
  isplitl [Hd]
  · iapply (pointsTo_rows_write c dst.view hg.axis' fd _ (gatherPayload hg (src.view.read (Elt F) fs) r) fun _ _ => rfl) $$ Hd
  isplitl [Hs] <;> iassumption

/-- A gather issued against a batch of row transfers of `N` units each, `k` of them issued: from shares of the source's
    elements and of the offset list and the destination's elements outright, the words of the list all in range, the
    tile goes on with the batch at `k` and the gather's rows. The batch's members from `k` on are what the gather's
    entries leave (`hD`). -/
theorem wp_gatherIntoBatch [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {kont : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {D : Fin n → sProp 𝕄} {k u : ℕ} (hk : k + s.size hg.axis' ≤ n) (hu : u ≤ k * N)
    (hD : ∀ j : Fin (s.size hg.axis'), entryDone c src dst hg offs hn ho q qo fs fd fo (rows (offs.view.read (Elt F) fo) hn hin) j
      ⊢ D ⟨k + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D k u)
      ⊢ iprop((Batch EC c (.dma sem) ι N D (k + s.size hg.axis') u -∗ wp frame (wpE defs 𝒱 c bd) Set.univ (kont ⟨⟩) Q)
          -∗ wp frame (wpE defs 𝒱 c bd) Set.univ (enqueueIndirectGather hp src dst hg offs hn sem hsrc he hsp hr >>= kont) Q) := by
  rw [enqueueIndirectGather_bind]
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let S : Stream nD τ sig (Elt F) :=
    Stream.issued c offs.view hn sem (fun j w => (rowOf (s₀.size hg.axis) w).map (gatherRow c src dst hg sem hsrc he hsp hr j)) 0
  have hen : Function.Bijective S.entry := si.rowMajor.symm.bijective.comp (finCongr hn.symm).bijective
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    show (rowOf (s₀.size hg.axis) (offs.view.read (Elt F) fo (S.entry j))).map _ = _
    rw [rowOf_of_lt (hin _)]; rfl
  have hsum : ∑ j, (rd j).dst.view.dmaCredit = s.size hg.axis' * N := by
    rw [Finset.sum_congr rfl fun j _ => hN j, Finset.sum_const, Finset.card_univ, Fintype.card_fin, smul_eq_mul]
  -- the row's payload, as the row transfer reads it, is the gather's on that row
  have hw : ∀ (j : Fin (s.size hg.axis')) (i : (s.rowShape hg.axis').Idx), src.view.read (Elt F) fs (hg.rowIdx (r j) i)
      = gatherPayload hg (src.view.read (Elt F) fs) r ((s.rowRect hg.axis' j).emb i) := fun j i => by
    unfold gatherPayload; rw [Shape.Gathers.idx_rowRect_emb]
  unfold Batch
  iintro ⟨Hs, Hd, Ho, ⟨%γ, %γ₀, %κ, #Hinv, Hpend, Hcnt, Hcred⟩⟩ Hk
  ihave Hp := (Entails.of_eq (bigSep_pending_run (fun t => count EC (γ t) 0) k (s.size hg.axis') hk)) $$ Hpend
  icases Hp with ⟨Hrun, Hpend⟩
  ihave Hs := (Entails.of_eq (pointsTo_piecesOf src.view.set fs ho q)) $$ Hs
  ihave Hd := (Entails.of_eq (pointsTo_rows c dst.view hg.axis' fullShare fd)) $$ Hd
  ihave Ho := (Entails.of_eq (pointsTo_entries c offs.view S.entry hen qo fo)) $$ Ho
  have hentry : ∀ j : Fin (s.size hg.axis'), iprop(inv κ (batchBody EC (c, SemLoc.dma sem) N D γ γ₀)
        ∗ (S.heldEntry qo fo j ∗ ((src.view.loc c ↦[src.view.set]{pieceOf q _ ho j} fs)
          ∗ (dst.view.loc c ↦[(dst.view.slice (s.rowRect hg.axis' j)).set]{fullShare} fd)) ∗ count EC (γ ⟨k + j.val, by omega⟩) 0))
      ⊢ iprop(S.heldEntry qo fo j ∗ (S.heldEntry qo fo j -∗ rowRes c (rd j))) := fun j => by
    iintro ⟨#Hinv, Hoj, ⟨Hsj, Hdj⟩, Hγj⟩
    isplitl [Hoj]; · iexact Hoj
    iintro Hoj
    unfold rowRes
    iexists pieceOf q _ ho j, fs, iprop((dst.view.loc c ↦[(dst.view.slice (s.rowRect hg.axis' j)).set]{fullShare}
        ((dst.view.slice (s.rowRect hg.axis' j)).write (Elt F) fd ((rd j).via.apply (src.view.read (Elt F) fs)) Finset.univ)) ∗ S.heldEntry qo fo j)
    isplitl [Hsj]; · iexact Hsj
    isplitl [Hdj Hoj]
    · iapply writeUpdate_frame
      isplitl [Hdj]
      · iapply (pointsTo_writeUpdate c (v := dst.view.slice (s.rowRect hg.axis' j)) subset_rfl) $$ Hdj
      · iexact Hoj
    · have hamt : (rd j).dst.view.amount (.dma sem) = N := hN j
      rw [hamt]
      have hdone : iprop(((dst.view.loc c ↦[(dst.view.slice (s.rowRect hg.axis' j)).set]{fullShare}
            ((dst.view.slice (s.rowRect hg.axis' j)).write (Elt F) fd ((rd j).via.apply (src.view.read (Elt F) fs)) Finset.univ))
            ∗ S.heldEntry qo fo j) ∗ (src.view.loc c ↦[src.view.set]{pieceOf q _ ho j} fs))
          ⊢ (entryDone c src dst hg offs hn ho q qo fs fd fo r j : sProp 𝕄) := by
        unfold entryDone
        rw [← funext (hw j)]
        iintro ⟨⟨Hd, Ho⟩, Hs⟩
        isplitl [Hs]; · iexact Hs
        isplitl [Ho]; · iexact Ho
        iexact Hd
      iapply (batch_creditUpdate EC (D := D) (γ := γ) (γ₀ := γ₀) ⟨k + j.val, by omega⟩ (hdone.trans (hD j)))
      isplitr
      · iexact Hinv
      iexact Hγj
  iapply (wp_enqueueIndirectDma 𝒱 c bd Set.univ (qo := qo) (fo := fo) (rd := rd) ι (s.size hg.axis' * N) hA hrd hsum) $$ [Hs Hd Ho Hrun]
  · unfold Stream.res
    ihave H := bigSep_sep_in _ _ _ $$ [Hs Hd]; · isplitl [Hs] <;> iassumption
    ihave H := bigSep_sep_in _ _ _ $$ [H Hrun]; · isplitl [H] <;> iassumption
    ihave H := bigSep_sep_in _ _ _ $$ [Ho H]; · isplitl [Ho] <;> iassumption
    iapply (bigSep_mono_pers Finset.univ (inv κ (batchBody EC (c, SemLoc.dma sem) N D γ γ₀)) _ _ fun j _ => hentry j)
    isplitr
    · iexact Hinv
    iexact H
  iintro Hcred'
  iapply Hk
  iexists γ, γ₀, κ
  isplitr; · iexact Hinv
  isplitl [Hpend]; · iexact Hpend
  isplitl [Hcnt]; · iexact Hcnt
  rw [show (k + s.size hg.axis') * N - u = (k * N - u) + s.size hg.axis' * N by rw [Nat.add_mul]; omega, ← tallyAt_add]
  icombine Hcred Hcred' as H
  iexact H

end Gather

end Cert.Proof.GatherBatch

end
-- ==== Proof.Rows.lean ====
/-
  One row of the table, one row of the tile's block of gathered values, and one gather between them: which elements the
  views name, what a landed gather leaves, and the sixteen gathers as one batch of row transfers on the tile's semaphore.
-/
module

public import proofs.«01_k».proof.Proof.Setup
public import proofs.«01_k».proof.Proof.GatherBatch

@[expose] public section

set_option maxRecDepth 16384

noncomputable section

namespace Cert.Proof.Rows

open Cert.KernelIdeal Cert.KernelIdeal.Gen Cert.Proof.Setup Cert.Proof.GatherBatch

open Idealize.ShloMosaic
open Idealize.ShloMosaic.SparseCore
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.ValueIdx (ix1 ix2 eq_ix1 eq_ix2)

variable {F : FTy → Type}

local notation "𝕄" => MT nD τ sig (HIx 1) (Elt F) ℕ UU ℕ

/-! ## The rows -/

theorem inbT (k : ℕ) (hk : k < 16) : ∀ a : Fin 2, (![k, 0] : Fin 2 → ℕ) a + S1x100000.size a ≤ S16x100000.size a := by
  intro a
  match a with
  | 0 => show k + 1 ≤ 16; omega
  | 1 => show 0 + 100000 ≤ 100000; omega
theorem inbC (k : ℕ) (hk : k < 16) : ∀ a : Fin 2, (![k, 0] : Fin 2 → ℕ) a + S1x160.size a ≤ S16x160.size a := by
  intro a
  match a with
  | 0 => show k + 1 ≤ 16; omega
  | 1 => show 0 + 160 ≤ 160; omega

/-- Row `k` of the table, as the gather names it. -/
abbrev tRow (k : ℕ) (hk : k < 16) : Memref sig .scVector .hbm S100000 .f32 :=
  (((tV).slice (Rect.unit (s := S16x100000) ![k, 0] S1x100000.size (inbT k hk)) (fun _ => rfl)).squeeze S100000 squeezes_S1x100000_S100000).slice
    (Rect.unit (s := S100000) ![0] S100000.size inb_S100000_S100000_0) (fun _ => rfl)
/-- Row `k` of the tile's block, as the gather names it. -/
abbrev cRow (k : ℕ) (hk : k < 16) : Memref sig .scVector .vmem S160 .f32 :=
  ((rV).slice (Rect.unit (s := S16x160) ![k, 0] S1x160.size (inbC k hk)) (fun _ => rfl)).squeeze S160 squeezes_S1x160_S160

theorem tRow_emb (k : ℕ) (hk : k < 16) (x : S100000.Idx) : (tRow k hk).view.emb x = (ix2 ⟨k, hk⟩ (x 0) : S16x100000.Idx) := by
  funext a
  show (Rect.unit (s := S16x100000) ![k, 0] S1x100000.size (inbT k hk)).emb
    (Shape.reshapeEquiv squeezes_S1x100000_S100000.numel_eq ((Rect.unit (s := S100000) ![0] S100000.size inb_S100000_S100000_0).emb x)) a = _
  rw [show Shape.reshapeEquiv squeezes_S1x100000_S100000.numel_eq ((Rect.unit (s := S100000) ![0] S100000.size inb_S100000_S100000_0).emb x)
    = Fin.cons ⟨0, Nat.one_pos⟩ ((Rect.unit (s := S100000) ![0] S100000.size inb_S100000_S100000_0).emb x) from Shape.reshapeEquiv_cons_one _ _]
  apply Fin.ext
  match a with
  | 0 => show k + 1 * 0 = k; omega
  | 1 => show 0 + 1 * (0 + 1 * (x 0).val) = (x 0).val; omega

theorem cRow_emb (k : ℕ) (hk : k < 16) (x : S160.Idx) : (cRow k hk).view.emb x = (ix2 ⟨k, hk⟩ (x 0) : S16x160.Idx) := by
  funext a
  show (Rect.unit (s := S16x160) ![k, 0] S1x160.size (inbC k hk)).emb
    (Shape.reshapeEquiv squeezes_S1x160_S160.numel_eq x) a = _
  rw [show Shape.reshapeEquiv squeezes_S1x160_S160.numel_eq x = Fin.cons ⟨0, Nat.one_pos⟩ x from Shape.reshapeEquiv_cons_one _ _]
  apply Fin.ext
  match a with
  | 0 => show k + 1 * 0 = k; omega
  | 1 => show 0 + 1 * (x 0).val = (x 0).val; omega

abbrev tSet (k : Fin 16) : Finset S16x100000.Idx := (tRow k.val k.isLt).view.set
abbrev cSet (k : Fin 16) : Finset S16x160.Idx := (cRow k.val k.isLt).view.set

theorem mem_tSet (k : Fin 16) (j : S16x100000.Idx) : j ∈ tSet k ↔ j 0 = k := by
  refine ⟨fun h => ?_, fun h => ?_⟩
  · obtain ⟨x, -, rfl⟩ := Finset.mem_map.mp h
    rw [tRow_emb]
  · refine Finset.mem_map.mpr ⟨ix1 (j 1), Finset.mem_univ _, ?_⟩
    rw [tRow_emb]
    subst h; exact (eq_ix2 j).symm
theorem mem_cSet (k : Fin 16) (j : S16x160.Idx) : j ∈ cSet k ↔ j 0 = k := by
  refine ⟨fun h => ?_, fun h => ?_⟩
  · obtain ⟨x, -, rfl⟩ := Finset.mem_map.mp h
    rw [cRow_emb]
  · refine Finset.mem_map.mpr ⟨ix1 (j 1), Finset.mem_univ _, ?_⟩
    rw [cRow_emb]
    subst h; exact (eq_ix2 j).symm

theorem tSets_disjoint : ∀ k ∈ (Finset.univ : Finset (Fin 16)), ∀ k' ∈ (Finset.univ : Finset (Fin 16)), k ≠ k' → Disjoint (tSet k) (tSet k') := by
  intro k _ k' _ h
  rw [Finset.disjoint_left]
  intro j hj hj'
  exact h (((mem_tSet k j).mp hj).symm.trans ((mem_tSet k' j).mp hj'))
theorem cSets_disjoint : ∀ k ∈ (Finset.univ : Finset (Fin 16)), ∀ k' ∈ (Finset.univ : Finset (Fin 16)), k ≠ k' → Disjoint (cSet k) (cSet k') := by
  intro k _ k' _ h
  rw [Finset.disjoint_left]
  intro j hj hj'
  exact h (((mem_cSet k j).mp hj).symm.trans ((mem_cSet k' j).mp hj'))
theorem tSets_cover : (Finset.univ : Finset (Fin 16)).biUnion tSet = Finset.univ := by
  ext j
  simp only [Finset.mem_univ, iff_true, Finset.mem_biUnion, true_and]
  exact ⟨j 0, (mem_tSet _ j).mpr rfl⟩
theorem cSets_cover : (Finset.univ : Finset (Fin 16)).biUnion cSet = Finset.univ := by
  ext j
  simp only [Finset.mem_univ, iff_true, Finset.mem_biUnion, true_and]
  exact ⟨j 0, (mem_cSet _ j).mpr rfl⟩

/-! ## What the sixteen gathers leave in the tile's block -/

/-- The tile's block after the gathers: row `k`, column `p` holds row `k` of the table at the `p`-th word of the tile's list. -/
def blockOf (tb : S16x100000.Idx → Elt F .f32) (fo : S160.Idx → Elt F .i32) : S16x160.Idx → Elt F .f32 :=
  fun j => entryAt tb (j 0) (fo (ix1 (j 1)))

/-- One row written by its gather agrees with the block on that row. -/
theorem row_written (k : ℕ) (hk : k < 16) (tb : S16x100000.Idx → Elt F .f32) (fd : S16x160.Idx → Elt F .f32) (fo : S160.Idx → Elt F .i32)
    (hin : ∀ x, ((sV).view.read (Elt F) fo x).toNat < S100000.size gathers_S100000_S160.axis) :
    ∀ j ∈ (cRow k hk).view.set, (cRow k hk).view.write (Elt F) fd
        (gatherPayload gathers_S100000_S160 ((tRow k hk).view.read (Elt F) tb) (rows ((sV).view.read (Elt F) fo) rfl hin)) Finset.univ j
      = blockOf tb fo j := by
  intro j hj
  obtain ⟨x, -, rfl⟩ := Finset.mem_map.mp hj
  rw [View.write_emb_of_mem _ _ (Finset.mem_univ x)]
  rw [show ∀ v : Elt F .f32, _root_.cast (congrArg (Elt F) (cRow k hk).view.elt_eq.symm) v = v from fun v => rfl]
  show (tRow k hk).view.read (Elt F) tb (gathers_S100000_S160.idx (rows ((sV).view.read (Elt F) fo) rfl hin) x) = _
  rw [View.read_apply, tRow_emb, cRow_emb]
  show tb (ix2 ⟨k, hk⟩ _) = tb (ix2 ⟨k, hk⟩ _)
  congr 2
  apply Fin.ext
  have hw : ∀ p : Fin S160.numel, S160.rowMajor.symm p = (ix1 (p : Fin 160) : S160.Idx) := fun p =>
    (Equiv.symm_apply_eq _).mpr (Fin.ext (Shape.rowMajor_val_one (ix1 (p : Fin 160) : S160.Idx)).symm)
  have hb := hin (ix1 (x 0))
  exact (congrArg (fun z => ((sV).view.read (Elt F) fo z).toNat) (hw (x 0))).trans (Nat.mod_eq_of_lt hb).symm

/-! ## The sixteen gathers as one batch -/

section Batch

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

variable (q : PosShare TreeShare) (tb : S16x100000.Idx → Elt F .f32) (fd : S16x160.Idx → Elt F .f32) (fo : S160.Idx → Elt F .i32)
variable (hin : ∀ x, ((sV).view.read (Elt F) fo x).toNat < S100000.size gathers_S100000_S160.axis)

theorem rows_pos : 0 < S160.size gathers_S100000_S160.axis' := by decide
/-- The piece of the list's share that gather `k` takes. -/
abbrev qL (k : Fin 16) : PosShare TreeShare := pieceOf fullShare 16 (by decide) k

theorem pieces_list {ℓ : Loc nD τ sig} (I : Finset (Idx ℓ)) (f : Buf (Elt F) ℓ) :
    (ℓ ↦[I]{fullShare} f : sProp 𝕄) = bigSep Finset.univ fun k : Fin 16 => ℓ ↦[I]{qL k} f :=
  pointsTo_piecesOf I f (by decide) fullShare

theorem list_pieces : ((sV).view.loc (thr d L) ↦{fullShare} fo : sProp 𝕄)
    = bigSep Finset.univ fun k : Fin 16 => (sV).view.loc (thr d L) ↦[(sV).view.set]{qL k} fo := by
  rw [← pieces_list, show (sV).view.set = Finset.univ from View.set_whole _]

theorem table_rows : ((tV).view.loc (thr d L) ↦{q} tb : sProp 𝕄)
    = bigSep Finset.univ fun k : Fin 16 => (tV).view.loc (thr d L) ↦[tSet k]{q} tb := by
  rw [← pointsTo_biUnion (ℓ := (tV).view.loc (thr d L)) Finset.univ tSet tSets_disjoint, tSets_cover]

theorem block_rows (f : S16x160.Idx → Elt F .f32) : ((rV).view.loc (thr d L) ↦{fullShare} f : sProp 𝕄)
    = bigSep Finset.univ fun k : Fin 16 => (rV).view.loc (thr d L) ↦[cSet k]{fullShare} f := by
  rw [← pointsTo_biUnion (ℓ := (rV).view.loc (thr d L)) Finset.univ cSet cSets_disjoint, cSets_cover]

/-- What entry `j` of gather `k` leaves. -/
abbrev entry (k : Fin 16) (j : Fin 160) : sProp 𝕄 :=
  entryDone (thr d L) (tRow k.val k.isLt) (cRow k.val k.isLt) gathers_S100000_S160 sV rfl rows_pos q (qL k) tb fd fo
    (rows ((sV).view.read (Elt F) fo) rfl hin) j

/-- The members of the batch: the entries of all the gathers, gather after gather. -/
def member (t : Fin 2560) : sProp 𝕄 :=
  entry d L q tb fd fo hin ⟨t.val / 160, by have := t.isLt; omega⟩ ⟨t.val % 160, Nat.mod_lt _ (by decide)⟩

instance member_storable (t : Fin 2560) : Storable (upEmb : UEmb _ 𝕄) (member d L q tb fd fo hin t) := by
  unfold member; exact entryDone_storable ..

/-- What gather `k` takes: its row of the table, its row of the block, its piece of the list. -/
def takes (k : Fin 16) : sProp 𝕄 :=
  iprop(((tV).view.loc (thr d L) ↦[tSet k]{q} tb) ∗ ((rV).view.loc (thr d L) ↦[cSet k]{fullShare} fd)
    ∗ ((sV).view.loc (thr d L) ↦[(sV).view.set]{qL k} fo))

/-- The table's share, the block and the list, cut up for the sixteen gathers. -/
theorem takes_of :
    iprop(((tV).view.loc (thr d L) ↦{q} tb) ∗ ((rV).view.loc (thr d L) ↦{fullShare} fd) ∗ ((sV).view.loc (thr d L) ↦{fullShare} fo))
      ⊢ (bigSep (pending 0) (takes d L q tb fd fo) : sProp 𝕄) := by
  rw [pending_zero]
  unfold takes
  rw [table_rows, block_rows, list_pieces]
  iintro ⟨H1, H2, H3⟩
  ihave H := bigSep_sep_in _ _ _ $$ [H2 H3]; · isplitl [H2] <;> iassumption
  ihave H := bigSep_sep_in _ _ _ $$ [H1 H]; · isplitl [H1] <;> iassumption
  iexact H

/-- All the entries landed: the table's share whole again, the block holding the gathered rows, the list. -/
theorem members_done :
    (bigSep Finset.univ (member d L q tb fd fo hin) : sProp 𝕄)
      ⊢ iprop(((tV).view.loc (thr d L) ↦{q} tb) ∗ ((rV).view.loc (thr d L) ↦{fullShare} blockOf tb fo) ∗ ((sV).view.loc (thr d L) ↦{fullShare} fo)) := by
  have hm : (bigSep Finset.univ (member d L q tb fd fo hin) : sProp 𝕄)
      = bigSep Finset.univ fun k : Fin 16 => bigSep Finset.univ fun j : Fin 160 => entry d L q tb fd fo hin k j := by
    refine (bigSep_univ_equiv (finProdFinEquiv : Fin 16 × Fin 160 ≃ Fin 2560) _).trans ?_
    refine (bigSep_univ_prod _).trans ?_
    refine congrArg (bigSep Finset.univ) (funext fun k => congrArg (bigSep Finset.univ) (funext fun j => ?_))
    unfold member
    have h1 : (⟨(finProdFinEquiv (k, j) : Fin 2560).val / 160, by have := (finProdFinEquiv (k, j) : Fin 2560).isLt; omega⟩ : Fin 16) = k :=
      Fin.ext (by show (j.val + 160 * k.val) / 160 = k.val; have := j.isLt; omega)
    have h2 : (⟨(finProdFinEquiv (k, j) : Fin 2560).val % 160, Nat.mod_lt _ (by decide)⟩ : Fin 160) = j :=
      Fin.ext (by show (j.val + 160 * k.val) % 160 = j.val; have := j.isLt; omega)
    rw [h1, h2]
  have hk : ∀ k : Fin 16, (bigSep Finset.univ fun j : Fin 160 => entry d L q tb fd fo hin k j : sProp 𝕄)
      ⊢ iprop(((tV).view.loc (thr d L) ↦[tSet k]{q} tb) ∗ ((rV).view.loc (thr d L) ↦[cSet k]{fullShare} blockOf tb fo)
        ∗ ((sV).view.loc (thr d L) ↦[(sV).view.set]{qL k} fo)) := fun k => by
    refine (entries_done (thr d L) (tRow k.val k.isLt) (cRow k.val k.isLt) gathers_S100000_S160 sV rfl rows_pos q (qL k) tb fd fo
      (rows ((sV).view.read (Elt F) fo) rfl hin)).trans ?_
    rw [pointsTo_congr (row_written k.val k.isLt tb fd fo hin)]
    iintro ⟨H1, H2, H3⟩
    isplitl [H2]; · iexact H2
    isplitl [H1]; · iexact H1
    iexact H3
  rw [hm, table_rows, block_rows, list_pieces]
  refine (bigSep_mono fun k _ => hk k).trans ?_
  show (bigSep Finset.univ _ : sProp 𝕄) ⊢ iprop(_ ∗ _ ∗ _)
  iintro H
  ihave H := bigSep_sep_out _ _ _ $$ H
  icases H with ⟨H1, H⟩
  ihave H := bigSep_sep_out _ _ _ $$ H
  icases H with ⟨H2, H3⟩
  isplitl [H1]; · iexact H1
  isplitl [H2] <;> iassumption

/-! ## One gather, one wait -/

section Steps

variable {Λ : Labels} {defs : Defs nD τ sig (Elt F) Λ} (𝒱 : Variants) (bd : Option 𝒱.V) {α : Type} {Q : α → sProp (MT nD τ sig (HIx 1) (Elt F) ℕ UU ℕ)}
variable {kont : PUnit → Prog (TpuEff nD τ sig (Elt F) Λ (thr d L).2) α}

/-- Gather `k` against the batch of which the gathers before it are issued. -/
theorem gather_step (k : ℕ) (hk : k < 16) {h1 : (thr d L).2.kind = .scVector}
    {h2 : S160.numel = S160.size gathers_S100000_S160.axis'} {h3 : (tRow k hk).view.WordExact} {h4 : EltTy.f32.bits = 32}
    {h5 : Space.hbm = .hbm ∨ Space.hbm = .shared} {h6 : S100000.StreamRows 0} :
    iprop(bigSep (pending k) (takes d L q tb fd fo) ∗ Batch countersEmb (thr d L) (.dma cc0_scratch2.sem) (default : HIx 1) 32 (member d L q tb fd fo hin) (160 * k) 0)
      ⊢ iprop((iprop(bigSep (pending (k + 1)) (takes d L q tb fd fo)
              ∗ Batch countersEmb (thr d L) (.dma cc0_scratch2.sem) (default : HIx 1) 32 (member d L q tb fd fo hin) (160 * (k + 1)) 0)
            -∗ wp frame (wpE defs 𝒱 (thr d L) bd) Set.univ (kont ⟨⟩) Q)
          -∗ wp frame (wpE defs 𝒱 (thr d L) bd) Set.univ
            (enqueueIndirectGather h1 (tRow k hk) (cRow k hk) gathers_S100000_S160 sV h2 cc0_scratch2.sem h3 h4 h5 h6 >>= kont) Q) := by
  rw [bigSep_pending_step (takes d L q tb fd fo) k hk]
  iintro ⟨⟨Hk, Hp⟩, HB⟩ Hw
  ihave Hk := (show (takes d L q tb fd fo ⟨k, hk⟩ : sProp 𝕄) ⊢ iprop(((tV).view.loc (thr d L) ↦[tSet ⟨k, hk⟩]{q} tb)
    ∗ ((rV).view.loc (thr d L) ↦[cSet ⟨k, hk⟩]{fullShare} fd) ∗ ((sV).view.loc (thr d L) ↦[(sV).view.set]{qL ⟨k, hk⟩} fo)) from .rfl) $$ Hk
  icases Hk with ⟨Ht, Hc, Hs⟩
  have hD : ∀ j : Fin (S160.size gathers_S100000_S160.axis'), (entryDone (thr d L) (tRow k hk) (cRow k hk) gathers_S100000_S160 sV rfl rows_pos q (qL ⟨k, hk⟩) tb fd fo
      (rows ((sV).view.read (Elt F) fo) rfl hin) j : sProp 𝕄) ⊢ member d L q tb fd fo hin ⟨160 * k + j.val, by have := j.isLt; have : j.val < 160 := j.isLt; omega⟩ := fun j => by
    have hj : j.val < 160 := j.isLt
    unfold member
    have e1 : (⟨(160 * k + j.val) / 160, by omega⟩ : Fin 16) = ⟨k, hk⟩ := Fin.ext (by show (160 * k + j.val) / 160 = k; omega)
    have e2 : (⟨(160 * k + j.val) % 160, Nat.mod_lt _ (by decide)⟩ : Fin 160) = j := Fin.ext (by show (160 * k + j.val) % 160 = j.val; omega)
    exact Entails.of_eq (by show _ = entry d L q tb fd fo hin ⟨(160 * k + j.val) / 160, _⟩ ⟨(160 * k + j.val) % 160, _⟩; rw [e1, e2])
  iapply (wp_gatherIntoBatch countersEmb 𝒱 (thr d L) bd (src := tRow k hk) (dst := cRow k hk) (hg := gathers_S100000_S160) (offs := sV) (default : HIx 1) 32
    (fun _ => rfl) rows_pos hin (k := 160 * k) (u := 0) (by show 160 * k + 160 ≤ 2560; omega) (Nat.zero_le _) hD) $$ [Ht Hc Hs HB]
  · isplitl [Ht]; · iexact Ht
    isplitl [Hc]; · iexact Hc
    isplitl [Hs]; · iexact Hs
    iexact HB
  iintro HB
  iapply Hw
  isplitl [Hp]; · iexact Hp
  iexact HB

/-- Wait `k`, all the gathers issued and `k` of them waited for. -/
theorem wait_step (k : ℕ) (hk : k < 16) (O : CellTallies nD τ sig (HIx 1)) (W : Waits sig (HIx 1))
    {h3 : (tRow k hk).view.WordExact} {h4 : (cRow k hk).view.WordExact} :
    iprop(Batch countersEmb (thr d L) (.dma cc0_scratch2.sem) (default : HIx 1) 32 (member d L q tb fd fo hin) 2560 (5120 * k)
        ∗ owes (thr d L) O W ∗ MayWait (thr d L) (.dma cc0_scratch2.sem) (default : HIx 1) O)
      ⊢ iprop((iprop(Batch countersEmb (thr d L) (.dma cc0_scratch2.sem) (default : HIx 1) 32 (member d L q tb fd fo hin) 2560 (5120 * (k + 1))
              ∗ owes (thr d L) O (insert (SemLoc.dma cc0_scratch2.sem, (default : HIx 1)) W))
            -∗ wp frame (wpE defs 𝒱 (thr d L) bd) Set.univ (kont ⟨⟩) Q)
          -∗ wp frame (wpE defs 𝒱 (thr d L) bd) Set.univ
            (waitIndirectGather cc0_scratch2.sem (tRow k hk) (cRow k hk) h3 h4 >>= kont) Q) :=
  wp_waitBatchMulO countersEmb 𝒱 (thr d L) bd (default : HIx 1) (N := 32) 160 (rfl : (cRow k hk).view.dmaCredit = 160 * 32)
    (by omega)

end Steps

end Batch

end Cert.Proof.Rows

end
-- ==== Proof.Tile.lean ====
/-
  The task of one vector subcore, run once with its coordinates unspecified: it fetches its 160 words of the index list,
  gathers those columns of every row of the table, and writes its block of the output. The launch theorem's obligation
  for the call's tiles follows.
-/
module

public import proofs.«01_k».proof.Proof.Rows

@[expose] public section

set_option maxRecDepth 16384

noncomputable section

namespace Cert.Proof.Tile

open Cert.KernelIdeal Cert.KernelIdeal.Gen Cert.Proof.Setup Cert.Proof.GatherBatch Cert.Proof.Rows

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx (ix1 ix2 eq_ix1 eq_ix2)

variable {F : FTy → Type} [FloatOps F]

local notation "𝕄" => MT nD τ sig (HIx 1) (Elt F) ℕ UU ℕ

section Tile

variable (tb : S16x100000.Idx → Elt F .f32) (ix : S5120.Idx → Elt F .i32) (o₀ : S16x5120.Idx → Elt F .f32)
variable (d : Dev nD) (L : grid0.Coords)

omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-- The tile's words of the list and its block of the output, as the task addresses them. -/
abbrev iPart (L : grid0.Coords) : Memref sig .scVector .hbm S160 .i32 :=
  (iV).slice (Rect.unit (s := S5120) (k0_off1 L) S160.size (k0_off1_inb L)) (fun _ => rfl)
abbrev oPart (L : grid0.Coords) : Memref sig .scVector .hbm S16x160 .f32 :=
  (oV).slice (Rect.unit (s := S16x5120) (k0_off2 L) S16x160.size (k0_off2_inb L)) (fun _ => rfl)

omit [FloatOps F] in
theorem oPart_rect : Rect.unit (s := S16x5120) (k0_off2 L) S16x160.size (k0_off2_inb L) = oRect (cL L) (jL L) := by
  unfold oRect Rect.part Rect.block
  congr 1 <;> funext a
  · rw [k0_off2_eq]
    match a with
    | 0 => simp [Shape.partIx, Shape.partSize]
    | 1 =>
      have h : 320 * (L 1).val + 160 * (L 0).val = 160 * (2 * (L 1).val + (L 0).val) := by omega
      simp [Shape.partIx, Shape.partSize]; omega
  · match a with
    | 0 => simp [Shape.partSize]
    | 1 => simp [Shape.partSize]

omit [FloatOps F] in
theorem set_oPart : (oPart L).view.set = oSet (cL L) (jL L) := by
  show ((oV).view.slice (Rect.unit (s := S16x5120) (k0_off2 L) S16x160.size (k0_off2_inb L))).set = _
  rw [oPart_rect]
  exact View.set_slice_whole _ _

omit [FloatOps F] in
theorem pts_oPart (f : S16x5120.Idx → Elt F .f32) :
    ((oPart L).view.loc (thr d L) ↦[(oPart L).view.set]{fullShare} f : sProp 𝕄) = oPtsOn d (oSet (cL L) (jL L)) f := by
  rw [set_oPart]

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scratch2.sem)

omit [FloatOps F] in
/-- The task's three semaphores are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scratch2.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The list's buffer written whole holds what was written. -/
theorem list_written (fs w : S160.Idx → Elt F .i32) :
    ((sV).view.loc (thr d L) ↦{fullShare} View.write (Elt F) (sV).view fs w Finset.univ : sProp 𝕄) = (sV).view.loc (thr d L) ↦{fullShare} w := by
  rw [show View.write (Elt F) (sV).view fs w Finset.univ = w from View.write_whole_univ _ _ _]

omit [FloatOps F] in
/-- The block written out, on the tile's part of the output, is the gathered rows there. -/
theorem out_written (f : S16x160.Idx → Elt F .f32) (hf : f = blockOf tb ((iPart L).view.read (Elt F) ix)) :
    ∀ j ∈ (oPart L).view.set, (oPart L).view.writes (Elt F) o₀ [⟨Rect.whole S16x160, f⟩] j = gathered tb ix j := by
  intro j hj
  rw [← View.write_univ_eq_writes_whole, View.writes_nil]
  obtain ⟨x, -, rfl⟩ := Finset.mem_map.mp hj
  rw [View.write_emb_of_mem _ _ (Finset.mem_univ x)]
  rw [show ∀ v : Elt F .f32, _root_.cast (congrArg (Elt F) (oPart L).view.elt_eq.symm) v = v from fun v => rfl, hf]
  have e0 : (oPart L).view.emb x 0 = x 0 := Fin.ext (by
    show k0_off2 L 0 + 1 * (x 0).val = (x 0).val
    rw [k0_off2_eq]; show 0 + 1 * (x 0).val = _; omega)
  have e1 : ((iPart L).view.emb (ix1 (x 1)) : S5120.Idx) = ix1 ((oPart L).view.emb x 1) := by
    funext a
    match a with
    | 0 =>
      apply Fin.ext
      show k0_off1 L 0 + 1 * (x 1).val = k0_off2 L 1 + 1 * (x 1).val
      rw [k0_off1_eq, k0_off2_eq]; rfl
  show entryAt tb (x 0) (ix ((iPart L).view.emb (ix1 (x 1)))) = entryAt tb ((oPart L).view.emb x 0) (ix (ix1 ((oPart L).view.emb x 1)))
  rw [e1, e0]; rfl

set_option maxHeartbeats 4000000 in
/-- The task on vector subcore `(L 0, L 1)` of device `d`, the words of the list all in range. -/
theorem tile_body (hF : (K (F := F)).Facts) (hix : ∀ j, (ix j).toNat < 100000) (q : PosShare TreeShare)
    (O : CellTallies nD τ sig (HIx 1)) (W : Waits sig (HIx 1)) (hO : ∀ g, O g none = 0) :
    iprop(levAts (K (F := F)).L (K (F := F)).lev ∗ emp
        ∗ part (fun _ => tb) (fun _ => ix) d q (oSet (cL L) (jL L)) o₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L tV (Memref.isWhole_whole _) iV (Memref.isWhole_whole _) oV (Memref.isWhole_whole _)
            sV (Memref.isWhole_whole _) rV (Memref.isWhole_whole _) cc0_scratch2 cc0_scoped0 cc0_scoped1)
          fun _ => iprop(part (fun _ => tb) (fun _ => ix) d q (oSet (cL L) (jL L)) (gathered tb ix)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [bind_assoc, pure_bind]
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (show iPts (fun _ => ix) d q ⊢ ((iV).view.loc (thr d L) ↦{q} ix : sProp 𝕄) from .rfl) $$ Hi
  ihave Ht' := (show tPts (fun _ => tb) d q ⊢ ((tV).view.loc (thr d L) ↦{q} tb : sProp 𝕄) from .rfl) $$ Ht
  ihave Ho' := (Entails.of_eq (pts_oPart (F := F) d L _).symm) $$ Ho
  ihave Hs' := (show _ ⊢ ((sV).view.loc (thr d L) ↦{fullShare} fs : sProp 𝕄) from .rfl) $$ Hs
  ihave Hr' := (show _ ⊢ ((rV).view.loc (thr d L) ↦{fullShare} fr : sProp 𝕄) from .rfl) $$ Hr
  sl_exec
  -- the fetched words, and that they are in range
  obtain ⟨fo, hfo⟩ : ∃ fo, fo = tile_body.sl.dma0 ix L := ⟨_, rfl⟩
  have hfo' : fo = (iPart L).view.read (Elt F) ix := hfo
  have hin : ∀ x, ((sV).view.read (Elt F) fo x).toNat < S100000.size gathers_S100000_S160.axis := fun x => by rw [hfo']; exact hix _
  ihave Hs2 := (Entails.of_eq ((list_written (F := F) d L fs _).trans (congrArg _ hfo.symm))) $$ Hs'
  -- the sixteen gathers, then the sixteen waits
  ihave HP := (takes_of d L q tb fr fo) $$ [Ht' Hr' Hs2]
  · isplitl [Ht']; · iexact Ht'
    isplitl [Hr'] <;> iassumption
  ihave HB := (batch_alloc' countersEmb (thr d L) (sm := .dma cc0_scratch2.sem) (default : HIx 1) 32 (member d L q tb fr fo hin) (E := Set.univ)) $$ HsemC
  imod HB with HB
  iapply (gather_step d L q tb fr fo hin 𝒱₀ none 0 (by decide)) $$ [HP HB]
  · isplitl [HP] <;> iassumption
  iintro ⟨HP, HB⟩
  iapply (gather_step d L q tb fr fo hin 𝒱₀ none 1 (by decide)) $$ [HP HB]
  · isplitl [HP] <;> iassumption
  iintro ⟨HP, HB⟩
  iapply (gather_step d L q tb fr fo hin 𝒱₀ none 2 (by decide)) $$ [HP HB]
  · isplitl [HP] <;> iassumption
  iintro ⟨HP, HB⟩
  iapply (gather_step d L q tb fr fo hin 𝒱₀ none 3 (by decide)) $$ [HP HB]
  · isplitl [HP] <;> iassumption
  iintro ⟨HP, HB⟩
  iapply (gather_step d L q tb fr fo hin 𝒱₀ none 4 (by decide)) $$ [HP HB]
  · isplitl [HP] <;> iassumption
  iintro ⟨HP, HB⟩
  iapply (gather_step d L q tb fr fo hin 𝒱₀ none 5 (by decide)) $$ [HP HB]
  · isplitl [HP] <;> iassumption
  iintro ⟨HP, HB⟩
  iapply (gather_step d L q tb fr fo hin 𝒱₀ none 6 (by decide)) $$ [HP HB]
  · isplitl [HP] <;> iassumption
  iintro ⟨HP, HB⟩
  iapply (gather_step d L q tb fr fo hin 𝒱₀ none 7 (by decide)) $$ [HP HB]
  · isplitl [HP] <;> iassumption
  iintro ⟨HP, HB⟩
  iapply (gather_step d L q tb fr fo hin 𝒱₀ none 8 (by decide)) $$ [HP HB]
  · isplitl [HP] <;> iassumption
  iintro ⟨HP, HB⟩
  iapply (gather_step d L q tb fr fo hin 𝒱₀ none 9 (by decide)) $$ [HP HB]
  · isplitl [HP] <;> iassumption
  iintro ⟨HP, HB⟩
  iapply (gather_step d L q tb fr fo hin 𝒱₀ none 10 (by decide)) $$ [HP HB]
  · isplitl [HP] <;> iassumption
  iintro ⟨HP, HB⟩
  iapply (gather_step d L q tb fr fo hin 𝒱₀ none 11 (by decide)) $$ [HP HB]
  · isplitl [HP] <;> iassumption
  iintro ⟨HP, HB⟩
  iapply (gather_step d L q tb fr fo hin 𝒱₀ none 12 (by decide)) $$ [HP HB]
  · isplitl [HP] <;> iassumption
  iintro ⟨HP, HB⟩
  iapply (gather_step d L q tb fr fo hin 𝒱₀ none 13 (by decide)) $$ [HP HB]
  · isplitl [HP] <;> iassumption
  iintro ⟨HP, HB⟩
  iapply (gather_step d L q tb fr fo hin 𝒱₀ none 14 (by decide)) $$ [HP HB]
  · isplitl [HP] <;> iassumption
  iintro ⟨HP, HB⟩
  iapply (gather_step d L q tb fr fo hin 𝒱₀ none 15 (by decide)) $$ [HP HB]
  · isplitl [HP] <;> iassumption
  iintro ⟨HP, HB⟩
  iapply (wait_step d L q tb fr fo hin 𝒱₀ none 0 (by decide) O _) $$ [HB HO]
  · isplitl [HB]; · iexact HB
    isplitl [HO]; · iexact HO
    iapply (Transfers.MayWaits.elim (SemLoc.dma cc0_scratch2.sem)) $$ Hmw
  iintro ⟨HB, HO⟩
  iapply (wait_step d L q tb fr fo hin 𝒱₀ none 1 (by decide) O _) $$ [HB HO]
  · isplitl [HB]; · iexact HB
    isplitl [HO]; · iexact HO
    iapply (Transfers.MayWaits.elim (SemLoc.dma cc0_scratch2.sem)) $$ Hmw
  iintro ⟨HB, HO⟩
  iapply (wait_step d L q tb fr fo hin 𝒱₀ none 2 (by decide) O _) $$ [HB HO]
  · isplitl [HB]; · iexact HB
    isplitl [HO]; · iexact HO
    iapply (Transfers.MayWaits.elim (SemLoc.dma cc0_scratch2.sem)) $$ Hmw
  iintro ⟨HB, HO⟩
  iapply (wait_step d L q tb fr fo hin 𝒱₀ none 3 (by decide) O _) $$ [HB HO]
  · isplitl [HB]; · iexact HB
    isplitl [HO]; · iexact HO
    iapply (Transfers.MayWaits.elim (SemLoc.dma cc0_scratch2.sem)) $$ Hmw
  iintro ⟨HB, HO⟩
  iapply (wait_step d L q tb fr fo hin 𝒱₀ none 4 (by decide) O _) $$ [HB HO]
  · isplitl [HB]; · iexact HB
    isplitl [HO]; · iexact HO
    iapply (Transfers.MayWaits.elim (SemLoc.dma cc0_scratch2.sem)) $$ Hmw
  iintro ⟨HB, HO⟩
  iapply (wait_step d L q tb fr fo hin 𝒱₀ none 5 (by decide) O _) $$ [HB HO]
  · isplitl [HB]; · iexact HB
    isplitl [HO]; · iexact HO
    iapply (Transfers.MayWaits.elim (SemLoc.dma cc0_scratch2.sem)) $$ Hmw
  iintro ⟨HB, HO⟩
  iapply (wait_step d L q tb fr fo hin 𝒱₀ none 6 (by decide) O _) $$ [HB HO]
  · isplitl [HB]; · iexact HB
    isplitl [HO]; · iexact HO
    iapply (Transfers.MayWaits.elim (SemLoc.dma cc0_scratch2.sem)) $$ Hmw
  iintro ⟨HB, HO⟩
  iapply (wait_step d L q tb fr fo hin 𝒱₀ none 7 (by decide) O _) $$ [HB HO]
  · isplitl [HB]; · iexact HB
    isplitl [HO]; · iexact HO
    iapply (Transfers.MayWaits.elim (SemLoc.dma cc0_scratch2.sem)) $$ Hmw
  iintro ⟨HB, HO⟩
  iapply (wait_step d L q tb fr fo hin 𝒱₀ none 8 (by decide) O _) $$ [HB HO]
  · isplitl [HB]; · iexact HB
    isplitl [HO]; · iexact HO
    iapply (Transfers.MayWaits.elim (SemLoc.dma cc0_scratch2.sem)) $$ Hmw
  iintro ⟨HB, HO⟩
  iapply (wait_step d L q tb fr fo hin 𝒱₀ none 9 (by decide) O _) $$ [HB HO]
  · isplitl [HB]; · iexact HB
    isplitl [HO]; · iexact HO
    iapply (Transfers.MayWaits.elim (SemLoc.dma cc0_scratch2.sem)) $$ Hmw
  iintro ⟨HB, HO⟩
  iapply (wait_step d L q tb fr fo hin 𝒱₀ none 10 (by decide) O _) $$ [HB HO]
  · isplitl [HB]; · iexact HB
    isplitl [HO]; · iexact HO
    iapply (Transfers.MayWaits.elim (SemLoc.dma cc0_scratch2.sem)) $$ Hmw
  iintro ⟨HB, HO⟩
  iapply (wait_step d L q tb fr fo hin 𝒱₀ none 11 (by decide) O _) $$ [HB HO]
  · isplitl [HB]; · iexact HB
    isplitl [HO]; · iexact HO
    iapply (Transfers.MayWaits.elim (SemLoc.dma cc0_scratch2.sem)) $$ Hmw
  iintro ⟨HB, HO⟩
  iapply (wait_step d L q tb fr fo hin 𝒱₀ none 12 (by decide) O _) $$ [HB HO]
  · isplitl [HB]; · iexact HB
    isplitl [HO]; · iexact HO
    iapply (Transfers.MayWaits.elim (SemLoc.dma cc0_scratch2.sem)) $$ Hmw
  iintro ⟨HB, HO⟩
  iapply (wait_step d L q tb fr fo hin 𝒱₀ none 13 (by decide) O _) $$ [HB HO]
  · isplitl [HB]; · iexact HB
    isplitl [HO]; · iexact HO
    iapply (Transfers.MayWaits.elim (SemLoc.dma cc0_scratch2.sem)) $$ Hmw
  iintro ⟨HB, HO⟩
  iapply (wait_step d L q tb fr fo hin 𝒱₀ none 14 (by decide) O _) $$ [HB HO]
  · isplitl [HB]; · iexact HB
    isplitl [HO]; · iexact HO
    iapply (Transfers.MayWaits.elim (SemLoc.dma cc0_scratch2.sem)) $$ Hmw
  iintro ⟨HB, HO⟩
  iapply (wait_step d L q tb fr fo hin 𝒱₀ none 15 (by decide) O _) $$ [HB HO]
  · isplitl [HB]; · iexact HB
    isplitl [HO]; · iexact HO
    iapply (Transfers.MayWaits.elim (SemLoc.dma cc0_scratch2.sem)) $$ Hmw
  iintro ⟨HB, HO⟩
  -- every row's amount waited for: every row has landed
  imod (batch_collect' countersEmb (thr d L) (N := 32) (by decide)) $$ HB with ⟨HD, HsemC⟩
  ihave HD := (members_done d L q tb fr fo hin) $$ HD
  icases HD with ⟨Ht', Hr', Hs'⟩
  sl_exec
  sl_step
  ihave Ho := (Entails.of_eq (pointsTo_congr (out_written (F := F) tb ix o₀ L _ (show tile_body.sl.dma0_1 tb fo = _ by rw [← hfo']; rfl)))) $$ Ho'
  isplitl [Hi' Ht' Ho]
  · isplitl [Hi']; · iexact Hi'
    isplitl [Ht']; · iexact Ht'
    iapply (Entails.of_eq (pts_oPart (F := F) d L _)); iexact Ho
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

section Obligation

variable (tb : Dev nD → S16x100000.Idx → Elt F .f32) (ix : Dev nD → S5120.Idx → Elt F .i32) (o₀ : Dev nD → S16x5120.Idx → Elt F .f32)

/-- Every tile's task, as the launch theorem asks it. -/
theorem tileObl (hF : (K (F := F)).Facts) (hix : ∀ d j, (ix d j).toNat < 100000) : (K (F := F)).TileObl (D (F := F)) 𝒱 (P tb ix o₀) v₀ 0 := by
  intro d c i O W hO _ _
  simp only [show (P tb ix o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (tb d) (ix d) (o₀ d) d (coordsV ⟨_, hci.1⟩ ⟨_, hci.2⟩) hF (hix d) _ O W hO).trans (wp_mono frame _ _ fun _ => obl_post)

/-! ## A SparseCore's operands split into its tiles', and their results join -/

omit [FloatOps F] in
theorem pieces16 {ℓ : Loc nD τ sig} (I : Finset (Idx ℓ)) (f : Buf (Elt F) ℓ) (q : PosShare TreeShare) (h : 0 < 16) :
    (ℓ ↦[I]{q} f : sProp 𝕄) = bigSep Finset.univ fun k : Fin 16 => ℓ ↦[I]{pieceOf q 16 h k} f :=
  pointsTo_piecesOf I f h q
omit [FloatOps F] in
theorem pieces2 {ℓ : Loc nD τ sig} (I : Finset (Idx ℓ)) (f : Buf (Elt F) ℓ) (q : PosShare TreeShare) (h : 0 < 2) :
    (ℓ ↦[I]{q} f : sProp 𝕄) = bigSep Finset.univ fun k : Fin 2 => ℓ ↦[I]{pieceOf q 2 h k} f :=
  pointsTo_piecesOf I f h q

/-- One SparseCore's shares and blocks are its tiles'. -/
theorem part_split (d : Dev nD) (c : Fin 2) (f : S16x5120.Idx → Elt F .f32) :
    (part tb ix d (qC c) (oCoreSet c) f : sProp 𝕄) = bigSep Finset.univ fun i : Fin 16 => part tb ix d (qT c i) (oSet c i) f := by
  have hi : (iPts ix d (qC c) : sProp 𝕄) = bigSep Finset.univ fun i : Fin 16 => iPts ix d (qT c i) :=
    pieces16 Finset.univ _ _ _
  have ht : (tPts tb d (qC c) : sProp 𝕄) = bigSep Finset.univ fun i : Fin 16 => tPts tb d (qT c i) :=
    pieces16 Finset.univ _ _ _
  have ho : (oPtsOn d (oCoreSet c) f : sProp 𝕄) = bigSep Finset.univ fun i : Fin 16 => oPtsOn d (oSet c i) f :=
    pointsTo_biUnion (ℓ := oLoc d) Finset.univ (oSet c) (oSets_disjoint c)
  show iprop(iPts ix d (qC c) ∗ tPts tb d (qC c) ∗ oPtsOn d (oCoreSet c) f) = _
  rw [hi, ht, ho, ← bigSep_sep', ← bigSep_sep']

/-- All the arrays are the two SparseCores' shares and blocks. -/
theorem part_split_cores (d : Dev nD) (f : S16x5120.Idx → Elt F .f32) :
    (part tb ix d fullShare Finset.univ f : sProp 𝕄) = bigSep Finset.univ fun c : Fin 2 => part tb ix d (qC c) (oCoreSet c) f := by
  have hi : (iPts ix d fullShare : sProp 𝕄) = bigSep Finset.univ fun c : Fin 2 => iPts ix d (qC c) :=
    pieces2 Finset.univ _ _ _
  have ht : (tPts tb d fullShare : sProp 𝕄) = bigSep Finset.univ fun c : Fin 2 => tPts tb d (qC c) :=
    pieces2 Finset.univ _ _ _
  have ho : (oPtsOn d Finset.univ f : sProp 𝕄) = bigSep Finset.univ fun c : Fin 2 => oPtsOn d (oCoreSet c) f := by
    rw [← oCoreSets_cover]; exact pointsTo_biUnion (ℓ := oLoc d) Finset.univ oCoreSet oCoreSets_disjoint
  show iprop(iPts ix d fullShare ∗ tPts tb d fullShare ∗ oPtsOn d Finset.univ f) = _
  rw [hi, ht, ho, ← bigSep_sep', ← bigSep_sep']

end Obligation

end Cert.Proof.Tile

end
-- ==== Proof.Body.lean ====
/-
  The TensorCore body, run once on symbolic staging buffers: at the first point it writes the hidden layer to its scratch
  and then the block of outputs; at every later point it reads the hidden layer back and writes the block of outputs.
-/
module

public import proofs.«01_k».proof.Proof.Setup
public import proofs.«01_k».proof.Proof.Gen.KernelIdeal.Points
public import Idealize.ShloMosaic.Lib.Pipeline.FrameBody
public import Idealize.ShloMosaic.Lib.VecWindow
public import Idealize.ShloMosaic.Lib.Tactic.Stretches

@[expose] public section

set_option maxRecDepth 16384

noncomputable section

namespace Cert.Proof.Body

open Cert.KernelIdeal Cert.KernelIdeal.Gen Cert.Proof.Setup

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The hidden layer as the body computes it from the gathered rows, the first weights and the first bias. -/
def hidden (X1 : S16x5120.Idx → Elt F .f32) (X2 : S80x64.Idx → Elt F .f32) (X3 : S1x64.Idx → Elt F .f32) : S1024x64.Idx → Elt F .f32 :=
  k1_pay1 (k1_pay3 X3
    (View.ld X1 (Rect.unit (s := S16x5120) ![0, 0] S16x1024.size inb_S16x5120_S16x1024_0_0))
    (View.ld X2 (Rect.unit (s := S80x64) ![0, 0] S16x64.size inb_S80x64_S16x64_0_0))
    (View.ld X1 (Rect.unit (s := S16x5120) ![0, 1024] S16x1024.size inb_S16x5120_S16x1024_0_1024))
    (View.ld X2 (Rect.unit (s := S80x64) ![16, 0] S16x64.size inb_S80x64_S16x64_16_0))
    (View.ld X1 (Rect.unit (s := S16x5120) ![0, 2048] S16x1024.size inb_S16x5120_S16x1024_0_2048))
    (View.ld X2 (Rect.unit (s := S80x64) ![32, 0] S16x64.size inb_S80x64_S16x64_32_0))
    (View.ld X1 (Rect.unit (s := S16x5120) ![0, 3072] S16x1024.size inb_S16x5120_S16x1024_0_3072))
    (View.ld X2 (Rect.unit (s := S80x64) ![48, 0] S16x64.size inb_S80x64_S16x64_48_0))
    (View.ld X1 (Rect.unit (s := S16x5120) ![0, 4096] S16x1024.size inb_S16x5120_S16x1024_0_4096))
    (View.ld X2 (Rect.unit (s := S80x64) ![64, 0] S16x64.size inb_S80x64_S16x64_64_0)))

/-- At the first point: the hidden layer into the scratch, the block of outputs into its buffer. -/
theorem first_run (c : Dev nD) (i : grid1.Coords) (arg1 : Memref sig .tc .vmem S16x5120 .f32) (harg1 : arg1.IsWhole)
    (arg2 : Memref sig .tc .vmem S80x64 .f32) (harg2 : arg2.IsWhole) (arg3 : Memref sig .tc .vmem S1x64 .f32) (harg3 : arg3.IsWhole)
    (arg4 : Memref sig .tc .vmem S64x4096 .f32) (harg4 : arg4.IsWhole) (arg5 : Memref sig .tc .vmem S1x4096 .f32) (harg5 : arg5.IsWhole)
    (arg6 : Memref sig .tc .vmem S4096x1024 .f32) (harg6 : arg6.IsWhole) (arg7 : Memref sig .tc .vmem S1024x64 .f32) (harg7 : arg7.IsWhole) (hi : i 0 = ⟨0, by decide⟩)
    (X1 : S16x5120.Idx → Elt F .f32) (X2 : S80x64.Idx → Elt F .f32) (X3 : S1x64.Idx → Elt F .f32) (X4 : S64x4096.Idx → Elt F .f32)
    (X5 : S1x4096.Idx → Elt F .f32) (K : PUnit → sProp 𝕄) :
    iprop((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ (∃ d, owns (c : Thread nD τ) arg6 fullShare d) ∗ (∃ d, owns (c : Thread nD τ) arg7 fullShare d))
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare (k1_pay2 X4 (hidden X1 X2 X3) X5) ∗ owns (c : Thread nD τ) arg7 fullShare (hidden X1 X2 X3)) -∗ K ⟨⟩))
      ⊢ wp frame (wpE (defs₀ (F := F)) Variants.none c none) Set.univ (cc1__out_body i arg1 harg1 arg2 harg2 arg3 harg3 arg4 harg4 arg5 harg5 arg6 harg6 arg7 harg7) K := by
  have hC : Scalar.cmpi .ne (Scalar.extui (Scalar.cmpi .eq (BitVec.ofNat 32 (i 0).val) 0#32)) 0#32 = 1#1 := by rw [hi]; decide
  simp only [cc1__out_body_eq_skeleton]; unfold cc1__out_body_skel
  simp only [k1_part1_eq_skeleton]; unfold k1_part1_skel
  unfold owns
  iintro ⟨⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩⟩, Hk⟩
  sl_exec
  sl_step
  iapply Hk
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [H4]; · iexists f4; isplitr; · ipureintro; exact hf4
                  iexact H4
  isplitl [H5]; · iexists f5; isplitr; · ipureintro; exact hf5
                  iexact H5
  isplitl [H6]
  · iexists _; isplitr; swap; · iexact H6
    ipureintro
    sl_open_run
    rw [View.read_writes_full, View.readAt_full arg4.view, View.readAt_full arg5.view, View.readCov_full, View.readAt_full arg3.view, hf3, hf4, hf5]
    simp only [View.readAt_eq_ld, hf1, hf2]
    rfl
  iexists _; isplitr; swap; · iexact H7
  ipureintro
  sl_open_run
  rw [View.read_writes_full, View.readAt_full arg3.view, hf3]
  simp only [View.readAt_eq_ld, hf1, hf2]
  rfl

/-- At a later point: the block of outputs, from the hidden layer that the scratch holds. -/
theorem later_run (c : Dev nD) (i : grid1.Coords) (arg1 : Memref sig .tc .vmem S16x5120 .f32) (harg1 : arg1.IsWhole)
    (arg2 : Memref sig .tc .vmem S80x64 .f32) (harg2 : arg2.IsWhole) (arg3 : Memref sig .tc .vmem S1x64 .f32) (harg3 : arg3.IsWhole)
    (arg4 : Memref sig .tc .vmem S64x4096 .f32) (harg4 : arg4.IsWhole) (arg5 : Memref sig .tc .vmem S1x4096 .f32) (harg5 : arg5.IsWhole)
    (arg6 : Memref sig .tc .vmem S4096x1024 .f32) (harg6 : arg6.IsWhole) (arg7 : Memref sig .tc .vmem S1024x64 .f32) (harg7 : arg7.IsWhole) (hi : ¬ (i 0).val = 0)
    (X1 : S16x5120.Idx → Elt F .f32) (X2 : S80x64.Idx → Elt F .f32) (X3 : S1x64.Idx → Elt F .f32) (X4 : S64x4096.Idx → Elt F .f32)
    (X5 : S1x4096.Idx → Elt F .f32) (h : S1024x64.Idx → Elt F .f32) (K : PUnit → sProp 𝕄) :
    iprop((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ (∃ d, owns (c : Thread nD τ) arg6 fullShare d) ∗ owns (c : Thread nD τ) arg7 fullShare h)
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare (k1_pay2 X4 h X5) ∗ owns (c : Thread nD τ) arg7 fullShare h) -∗ K ⟨⟩))
      ⊢ wp frame (wpE (defs₀ (F := F)) Variants.none c none) Set.univ (cc1__out_body i arg1 harg1 arg2 harg2 arg3 harg3 arg4 harg4 arg5 harg5 arg6 harg6 arg7 harg7) K := by
  have hC : ¬ Scalar.cmpi .ne (Scalar.extui (Scalar.cmpi .eq (BitVec.ofNat 32 (i 0).val) 0#32)) 0#32 = 1#1 := by
    have hk : ∀ k : Fin 25, ¬ k.val = 0 → ¬ Scalar.cmpi .ne (Scalar.extui (Scalar.cmpi .eq (BitVec.ofNat 32 k.val) 0#32)) 0#32 = 1#1 := by decide
    exact hk (i 0) hi
  simp only [cc1__out_body_eq_skeleton]; unfold cc1__out_body_skel
  unfold owns
  iintro ⟨⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩⟩, Hk⟩
  sl_exec
  sl_step
  iapply Hk
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  isplitl [H4]; · iexists f4; isplitr; · ipureintro; exact hf4
                  iexact H4
  isplitl [H5]; · iexists f5; isplitr; · ipureintro; exact hf5
                  iexact H5
  isplitl [H6]
  · iexists _; isplitr; swap; · iexact H6
    ipureintro
    rw [View.read_writes_full, View.readAt_full, View.readAt_full, View.readAt_full, hf4, hf5, hf7]
  iexists f7; isplitr; · ipureintro; exact hf7
  iexact H7

end Cert.Proof.Body

end
-- ==== Proof.Region.lean ====
/-
  The TensorCore call: its proof data, which say of each block of the output only that it is computed from what the windows
  found, the body at every point, and the call as one step from its arrays to its arrays.
-/
module

public import proofs.«01_k».proof.Proof.Body
public import Idealize.ShloMosaic.Lib.Pipeline.Kit
public import Idealize.ShloMosaic.Lib.Pipeline.Regions

@[expose] public section

set_option maxRecDepth 16384

noncomputable section

namespace Cert.Proof.Region

open Cert.KernelIdeal Cert.KernelIdeal.Gen Cert.Proof.Setup Cert.Proof.Body

open Idealize.ShloMosaic Idealize.ShloMosaic.TcCoe
open Idealize.ShloMosaic.Pipeline (RDat Cfg Window)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Two facts about proof data that constrain -/

section General

variable {Val : EltTy → Type} {Λ₁ : Labels} {cfg : Cfg sig Λ₁} {c : Dev nD}
variable (rd : RDat τ Val (HIx 1) ℕ UU ℕ cfg c)

/-- An input window that the body leaves as found, and that every fetch fills with `B`, is found at `B` at every point. -/
theorem finds_const (w : Fin cfg.W) (hin : (cfg.win w).isOut = false) (hafter : ∀ t Y X, rd.after w t Y X → X = Y)
    (B : (cfg.win w).block.Idx → Val (cfg.win w).elt) (hB : ∀ t d, rd.fetched w t d = B) (h0 : ∀ t : Fin cfg.N, t.val = 0 → (cfg.win w).fetch t = true) :
    ∀ (n : ℕ) (t : Fin cfg.N), t.val = n → ∀ X, rd.Finds w t X → X = B := by
  intro n
  induction n with
  | zero =>
    intro t ht X hX
    obtain ⟨d, rfl⟩ := (rd.finds_of_fetch (h0 t ht) X).mp hX
    exact hB t d
  | succ n ih =>
    intro t ht X hX
    by_cases hf : (cfg.win w).fetch t = true
    · obtain ⟨d, rfl⟩ := (rd.finds_of_fetch hf X).mp hX
      exact hB t d
    · rcases (rd.finds_of_pos (by simpa using hf) (by omega) X).mp hX with h | ⟨Y, hY, h⟩
      · rw [Window.flush_in _ hin] at h; exact absurd h (by decide)
      · rw [hafter _ Y X h]; exact ih _ (by show t.val - 1 = n; omega) Y hY

/-- An output window written back at every point, its blocks disjoint: each block ends as the moved part of something that
    the body may have left there. -/
theorem blocks_left (w : Fin cfg.W) (hfl : ∀ t, (cfg.win w).flush t = true)
    (hd : ∀ t u : Fin cfg.N, t ≠ u → Disjoint ((cfg.win w).blk t).view.set (((cfg.win w).blk u).view.setOn Finset.univ)) :
    ∀ (n : ℕ) (G : Buf Val ((cfg.win w).arr.view.loc (c.tc : Thread nD τ))), n ≤ cfg.N → rd.ArrAt w n G → ∀ t : Fin cfg.N, t.val < n →
      ∃ X, rd.Leaves w t X ∧ ((cfg.win w).blk t).view.read Val G = (cfg.win w).cut (cfg.grid.coords t) X := by
  intro n
  induction n with
  | zero => intro G _ _ t ht; exact absurd ht (Nat.not_lt_zero _)
  | succ n ih =>
    intro G hn hG t ht
    have hs := rd.ArrAt_succ w ⟨n, hn⟩
    have hG' : (if (cfg.win w).flush ⟨n, hn⟩ then rd.ArrStep w ⟨n, hn⟩ (rd.ArrAt w n) else rd.ArrAt w n) G := hs ▸ hG
    rw [if_pos (hfl _)] at hG'
    obtain ⟨G₀, X₁, hG₀, hX₁, rfl⟩ := hG'
    by_cases he : t.val = n
    · obtain rfl : t = ⟨n, hn⟩ := Fin.ext he
      exact ⟨X₁, hX₁, View.read_write_univ _ _⟩
    · obtain ⟨X, hX, hr⟩ := ih G₀ (by omega) hG₀ t (by omega)
      refine ⟨X, hX, ?_⟩
      rw [← hr]
      exact View.read_slice_write_slice_of_disjoint (v := (cfg.win w).arr.view) ((cfg.win w).rect t) ((cfg.win w).rect ⟨n, hn⟩) G₀ _ _ (hd t ⟨n, hn⟩ fun e => he (by rw [e]))

end General

/-! ## The proof data -/

section Data

variable (V : (d : Dev nD) → (b : Ref sig .tc) → Buf (Elt F) ((d.tc : Thread nD τ).loc b)) (R : Dev nD → Set (SemLoc sig × HIx 1))

/-- The hidden layer of the whole call. -/
abbrev hid (d : Dev nD) : S1024x64.Idx → Elt F .f32 := hidden (V d main_v3) (V d main_arg2) (V d main_v4)

/-- What a fetch of the second weights' block at point `t` leaves in its buffer, over `x`. -/
abbrev w2At (d : Dev nD) (t : Fin cfg1.N) (x : S64x4096.Idx → Elt F .f32) : S64x4096.Idx → Elt F .f32 :=
  (cfg1.win 3).fill (cfg1.grid.coords t) x (((cfg1.win 3).blk t).view.read (Elt F) (V d main_arg4))
/-- What a fetch of the second bias's block at point `t` leaves in its buffer, over `x`. -/
abbrev b2At (d : Dev nD) (t : Fin cfg1.N) (x : S1x4096.Idx → Elt F .f32) : S1x4096.Idx → Elt F .f32 :=
  (cfg1.win 4).fill (cfg1.grid.coords t) x (((cfg1.win 4).blk t).view.read (Elt F) (V d main_v5))

/-- What the body may leave: inputs as found; the output's block computed from the fetched weights and bias. -/
def rdats (_ : Fin 1) (d : Dev nD) : RDat τ (Elt F) (HIx 1) ℕ UU ℕ cfg1 d where
  A w := V d (Pipeline.arrRef spec1 w)
  after := fun
    | 0 => fun _ Y X => X = Y
    | 1 => fun _ Y X => X = Y
    | 2 => fun _ Y X => X = Y
    | 3 => fun _ Y X => X = Y
    | 4 => fun _ Y X => X = Y
    | 5 => fun t _ X => ∃ x y, X = k1_pay2 (w2At V d t x) (hid V d) (b2At V d t y)
    | ⟨_ + 6, h⟩ => absurd h (Nat.not_lt.2 (Nat.le_add_left _ _))
  Φ t := if t.val = 0 then iprop(∃ f, owns (d.tc : Thread nD τ) (Memref.whole cc1_scratch0) fullShare f)
    else owns (d.tc : Thread nD τ) (Memref.whole cc1_scratch0) fullShare (hid V d)
  q _ := fullShare
  owed _ := 0
  recorded _ := R d

/-- Every fetch of window 0 fills its buffer with the whole array. -/
theorem fetched0 (d : Dev nD) (t : Fin cfg1.N) (x : S16x5120.Idx → Elt F .f32) : (rdats V R 0 d).fetched 0 t x = V d main_v3 := by
  funext j
  unfold RDat.fetched Window.fill
  rw [dif_pos (show (cfg1.win 0).moved (cfg1.grid.coords t) j = true from rfl)]
  show V d main_v3 _ = V d main_v3 _
  congr 1
  funext a
  refine Fin.ext ?_
  fin_cases a
  · show 0 * _ + 1 * (j 0).val = (j 0).val; omega
  · show 0 * _ + 1 * (j 1).val = (j 1).val; omega

/-- Window 0 is found at the whole array at every point. -/
theorem finds0 (d : Dev nD) (t : Fin cfg1.N) (X : S16x5120.Idx → Elt F .f32) (h : (rdats V R 0 d).Finds 0 t X) : X = V d main_v3 :=
  finds_const (rdats V R 0 d) 0 rfl (fun _ _ _ h => h) (V d main_v3) (fetched0 V R d) (fun t ht => (fetch1_0 t).mpr (by rw [ht])) t.val t rfl X h

/-- Every fetch of window 1 fills its buffer with the whole array. -/
theorem fetched1 (d : Dev nD) (t : Fin cfg1.N) (x : S80x64.Idx → Elt F .f32) : (rdats V R 0 d).fetched 1 t x = V d main_arg2 := by
  funext j
  unfold RDat.fetched Window.fill
  rw [dif_pos (show (cfg1.win 1).moved (cfg1.grid.coords t) j = true from rfl)]
  show V d main_arg2 _ = V d main_arg2 _
  congr 1
  funext a
  refine Fin.ext ?_
  fin_cases a
  · show 0 * _ + 1 * (j 0).val = (j 0).val; omega
  · show 0 * _ + 1 * (j 1).val = (j 1).val; omega

/-- Window 1 is found at the whole array at every point. -/
theorem finds1 (d : Dev nD) (t : Fin cfg1.N) (X : S80x64.Idx → Elt F .f32) (h : (rdats V R 0 d).Finds 1 t X) : X = V d main_arg2 :=
  finds_const (rdats V R 0 d) 1 rfl (fun _ _ _ h => h) (V d main_arg2) (fetched1 V R d) (fun t ht => (fetch1_1 t).mpr (by rw [ht])) t.val t rfl X h

/-- Every fetch of window 2 fills its buffer with the whole array. -/
theorem fetched2 (d : Dev nD) (t : Fin cfg1.N) (x : S1x64.Idx → Elt F .f32) : (rdats V R 0 d).fetched 2 t x = V d main_v4 := by
  funext j
  unfold RDat.fetched Window.fill
  rw [dif_pos (show (cfg1.win 2).moved (cfg1.grid.coords t) j = true from rfl)]
  show V d main_v4 _ = V d main_v4 _
  congr 1
  funext a
  refine Fin.ext ?_
  fin_cases a
  · show 0 * _ + 1 * (j 0).val = (j 0).val; omega
  · show 0 * _ + 1 * (j 1).val = (j 1).val; omega

/-- Window 2 is found at the whole array at every point. -/
theorem finds2 (d : Dev nD) (t : Fin cfg1.N) (X : S1x64.Idx → Elt F .f32) (h : (rdats V R 0 d).Finds 2 t X) : X = V d main_v4 :=
  finds_const (rdats V R 0 d) 2 rfl (fun _ _ _ h => h) (V d main_v4) (fetched2 V R d) (fun t ht => (fetch1_2 t).mpr (by rw [ht])) t.val t rfl X h

/-- The second weights' and bias's buffers at point `t`: just fetched. -/
theorem finds3 (d : Dev nD) (t : Fin cfg1.N) (X : S64x4096.Idx → Elt F .f32) (h : (rdats V R 0 d).Finds 3 t X) : ∃ x, X = w2At V d t x :=
  ((rdats V R 0 d).finds_of_fetch (fetch1_3 t) X).mp h
theorem finds4 (d : Dev nD) (t : Fin cfg1.N) (X : S1x4096.Idx → Elt F .f32) (h : (rdats V R 0 d).Finds 4 t X) : ∃ x, X = b2At V d t x :=
  ((rdats V R 0 d).finds_of_fetch (fetch1_4 t) X).mp h

theorem defs₀_row (t : Fin cfg1.N) : defs₀ (F := F) .tc cfg1.body (cfg1.bodyArgs t (cfg1.slots t)) = bodyAt1 t := rfl

theorem coords_zero : ∀ t : Fin grid1.N, (grid1.coords t 0).val = t.val := by decide

/-- Before point 0 the scratch holds anything; -/
theorem inv_zero (d : Dev nD) (t : Fin (cfg1.N + 1)) (h : t.val = 0) :
    (rdats V R 0 d).Φ t = iprop(∃ f, owns (d.tc : Thread nD τ) (Memref.whole cc1_scratch0) fullShare f) := by
  unfold rdats; exact if_pos h
/-- after it, the hidden layer. -/
theorem inv_pos (d : Dev nD) (t : Fin (cfg1.N + 1)) (h : ¬ t.val = 0) :
    (rdats V R 0 d).Φ t = owns (d.tc : Thread nD τ) (Memref.whole cc1_scratch0) fullShare (hid V d) := by
  unfold rdats; exact if_neg h

/-- The hidden layer computed from what the first three windows are found at is that of the whole call. -/
theorem hidden_found (d : Dev nD) (t : Fin cfg1.N) (Y : (w : Fin cfg1.W) → (cfg1.win w).block.Idx → Elt F (cfg1.win w).elt)
    (hY : ∀ w, (rdats V R 0 d).Finds w t (Y w)) : hidden (Y 0) (Y 1) (Y 2) = hid V d := by
  have e0 : (Y 0 : S16x5120.Idx → Elt F .f32) = V d main_v3 := finds0 V R d t (Y 0) (hY 0)
  have e1 : (Y 1 : S80x64.Idx → Elt F .f32) = V d main_arg2 := finds1 V R d t (Y 1) (hY 1)
  have e2 : (Y 2 : S1x64.Idx → Elt F .f32) = V d main_v4 := finds2 V R d t (Y 2) (hY 2)
  rw [e0, e1, e2]

/-- What the body stores in the output's block is something it may leave there. -/
theorem left_of (d : Dev nD) (t : Fin cfg1.N) (Y : (w : Fin cfg1.W) → (cfg1.win w).block.Idx → Elt F (cfg1.win w).elt)
    (hY : ∀ w, (rdats V R 0 d).Finds w t (Y w)) : (rdats V R 0 d).after 5 t (Y 5) (k1_pay2 (Y 3) (hid V d) (Y 4)) := by
  obtain ⟨x3, e3⟩ := finds3 V R d t (Y 3) (hY 3)
  obtain ⟨x4, e4⟩ := finds4 V R d t (Y 4) (hY 4)
  rw [e3, e4]
  exact ⟨x3, x4, rfl⟩

/-- The body at every point. -/
theorem body_obligation (d : Dev nD) : (rdats V R 0 d).BodyObligation (defs₀ (F := F)) Variants.none (none : HIx 1) Set.univ := by
  intro t Y hY
  rw [bigSep_W1, bigSep_W1, defs₀_row, inv_pos V R d t.succ (Nat.succ_ne_zero t.val)]
  by_cases ht : t.val = 0
  · rw [inv_zero V R d t.castSucc ht]
    have hr := first_run (F := F) d (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2))
      (st1_3 t) (hstage1_3 ((cfg1.slots t 3).cast nbuf1_3)) (st1_4 t) (hstage1_4 ((cfg1.slots t 4).cast nbuf1_4)) (st1_5 t) (hstage1_5 ((cfg1.slots t 5).cast nbuf1_5))
      (Memref.whole cc1_scratch0) (Memref.isWhole_whole _) (Fin.ext ((coords_zero t).trans ht)) (Y 0) (Y 1) (Y 2) (Y 3) (Y 4)
    rw [hidden_found V R d t Y hY] at hr
    iintro ⟨HS, HO, H0, H1, H2, H3, H4, H5⟩
    iapply (hr _)
    isplitl [H0 H1 H2 H3 H4 H5 HS]
    · isplitl [H0]; · iexact H0
      isplitl [H1]; · iexact H1
      isplitl [H2]; · iexact H2
      isplitl [H3]; · iexact H3
      isplitl [H4]; · iexact H4
      isplitl [H5]; · iexists (Y 5); iexact H5
      iexact HS
    iintro ⟨H0, H1, H2, H3, H4, H5, HS⟩
    isplitl [HS]; · iexact HS
    isplitl [HO]; · iexact HO
    isplitl [H0]
    · iexists (Y 0); isplitr
      · ipureintro; exact rfl
      iexact H0
    isplitl [H1]
    · iexists (Y 1); isplitr
      · ipureintro; exact rfl
      iexact H1
    isplitl [H2]
    · iexists (Y 2); isplitr
      · ipureintro; exact rfl
      iexact H2
    isplitl [H3]
    · iexists (Y 3); isplitr
      · ipureintro; exact rfl
      iexact H3
    isplitl [H4]
    · iexists (Y 4); isplitr
      · ipureintro; exact rfl
      iexact H4
    iexists _; isplitr; swap; · iexact H5
    ipureintro
    exact left_of V R d t Y hY
  · rw [inv_pos V R d t.castSucc ht]
    have hr := later_run (F := F) d (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2))
      (st1_3 t) (hstage1_3 ((cfg1.slots t 3).cast nbuf1_3)) (st1_4 t) (hstage1_4 ((cfg1.slots t 4).cast nbuf1_4)) (st1_5 t) (hstage1_5 ((cfg1.slots t 5).cast nbuf1_5))
      (Memref.whole cc1_scratch0) (Memref.isWhole_whole _) (fun h => ht ((coords_zero t).symm.trans h)) (Y 0) (Y 1) (Y 2) (Y 3) (Y 4) (hid V d)
    iintro ⟨HS, HO, H0, H1, H2, H3, H4, H5⟩
    iapply (hr _)
    isplitl [H0 H1 H2 H3 H4 H5 HS]
    · isplitl [H0]; · iexact H0
      isplitl [H1]; · iexact H1
      isplitl [H2]; · iexact H2
      isplitl [H3]; · iexact H3
      isplitl [H4]; · iexact H4
      isplitl [H5]; · iexists (Y 5); iexact H5
      iexact HS
    iintro ⟨H0, H1, H2, H3, H4, H5, HS⟩
    isplitl [HS]; · iexact HS
    isplitl [HO]; · iexact HO
    isplitl [H0]
    · iexists (Y 0); isplitr
      · ipureintro; exact rfl
      iexact H0
    isplitl [H1]
    · iexists (Y 1); isplitr
      · ipureintro; exact rfl
      iexact H1
    isplitl [H2]
    · iexists (Y 2); isplitr
      · ipureintro; exact rfl
      iexact H2
    isplitl [H3]
    · iexists (Y 3); isplitr
      · ipureintro; exact rfl
      iexact H3
    isplitl [H4]
    · iexists (Y 4); isplitr
      · ipureintro; exact rfl
      iexact H4
    iexists _; isplitr; swap; · iexact H5
    ipureintro
    exact left_of V R d t Y hY

end Data

end Cert.Proof.Region

end
-- ==== Proof.Segment.lean ====
/-
  The TensorCore call as one step of the program: from its six arrays to its six arrays, the five inputs as they were and
  the output one of those that the proof data allow after the last write-back.
-/
module

public import proofs.«01_k».proof.Proof.Region

@[expose] public section

set_option maxRecDepth 16384

noncomputable section

namespace Cert.Proof.Segment

open Cert.KernelIdeal Cert.KernelIdeal.Gen Cert.Proof.Setup Cert.Proof.Body Cert.Proof.Region

open Idealize.ShloMosaic Idealize.ShloMosaic.TcCoe
open Idealize.ShloMosaic.Pipeline (RDat Cfg Window owesWithin)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- No table is fetched before the call. -/
abbrev adm : (p : Fin 1) → (pcfgs (F := F) p).Adm := fun p => (cfgs p).toPCfg_adm

variable (V : (d : Dev nD) → (b : Ref sig .tc) → Buf (Elt F) ((d.tc : Thread nD τ).loc b)) (R : Dev nD → Set (SemLoc sig × HIx 1))

/-- An array of the TensorCore, whole, at `f`. -/
abbrev pt (d : Dev nD) (b : Ref sig .tc) (f : Buf (Elt F) ((d.tc : Thread nD τ).loc b)) : sProp 𝕄 := ((d.tc : Thread nD τ).loc b) ↦{fullShare} f

/-- The five arrays that the call reads. -/
abbrev ins (d : Dev nD) : sProp 𝕄 :=
  iprop(pt d main_v3 (V d main_v3) ∗ pt d main_arg2 (V d main_arg2) ∗ pt d main_v4 (V d main_v4) ∗ pt d main_arg4 (V d main_arg4) ∗ pt d main_v5 (V d main_v5))

/-- Every array is held whole. -/
theorem share_full (d : Dev nD) (w : Fin cfg1.W) : (rdats V R 0 d).share w = fullShare := by
  unfold RDat.share
  split <;> rfl

/-- The call's arrays at entry. -/
theorem arrays_entry (d : Dev nD) : (rdats V R 0 d).arrays (rdats V R 0 d).A = iprop(pt d main_v3 (V d main_v3) ∗ pt d main_arg2 (V d main_arg2) ∗ pt d main_v4 (V d main_v4)
    ∗ pt d main_arg4 (V d main_arg4) ∗ pt d main_v5 (V d main_v5) ∗ pt d main_v6 (V d main_v6)) := by
  rw [RDat.arrays_eq (pcfgs (F := F)) (adm (F := F)) (rdats V R) (p := 0) d arr_whole1 (share_full V R d), bigSep_W1]
  rfl

/-- The call's arrays after the last write-back. -/
theorem arrays_exit (d : Dev nD) : (rdats V R 0 d).arraysAt cfg1.N ⊢ iprop(ins V d ∗ ∃ f, ⌜(rdats V R 0 d).ArrAt 5 cfg1.N f⌝ ∗ pt d main_v6 f) := by
  rw [RDat.arraysAt_eq (pcfgs (F := F)) (adm (F := F)) (rdats V R) (p := 0) d arr_whole1 (share_full V R d), bigSep_W1,
    RDat.ArrAt_in (rdats V R 0 d) 0 rfl, RDat.ArrAt_in (rdats V R 0 d) 1 rfl, RDat.ArrAt_in (rdats V R 0 d) 2 rfl, RDat.ArrAt_in (rdats V R 0 d) 3 rfl,
    RDat.ArrAt_in (rdats V R 0 d) 4 rfl]
  iintro ⟨⟨%f0, %h0, H0⟩, ⟨%f1, %h1, H1⟩, ⟨%f2, %h2, H2⟩, ⟨%f3, %h3, H3⟩, ⟨%f4, %h4, H4⟩, ⟨%f5, %h5, H5⟩⟩
  subst h0 h1 h2 h3 h4
  isplitl [H0 H1 H2 H3 H4]
  · isplitl [H0]; · iexact H0
    isplitl [H1]; · iexact H1
    isplitl [H2]; · iexact H2
    isplitl [H3]; · iexact H3
    iexact H4
  iexists f5; isplitr; · ipureintro; exact h5
  iexact H5

/-- The call, with its entry and its exit. -/
def seg : RDat.RegionSeg (pcfgs (F := F)) (adm (F := F)) (rdats V R) (none : HIx 1) defs₀ 𝒱₀ (K (F := F)).L (K (F := F)).lev 0 where
  win := winFacts1.to₀
  block_pos := block_pos1
  stage_whole := stage_whole1
  K := PEmpty
  osem k := k.elim
  ho := Pipeline.OwnSemFacts.none _
  hbody d := body_obligation V R d
  hwaits d := RDat.hwaits_of_owed_zero _ _ _ _ _ _ 0 (fun _ _ => rfl) d
  pre d := iprop(ins V d ∗ pt d main_v6 (V d main_v6) ∗ owesWithin d 0 (R d))
  post d := iprop(ins V d ∗ (∃ f, ⌜(rdats V R 0 d).ArrAt 5 cfg1.N f⌝ ∗ pt d main_v6 f) ∗ owesWithin d 0 (R d ∪ cfg1.waitPairs none))
  X _ := iprop(emp)
  Y _ := iprop(emp)
  Z _ := iprop(emp)
  hentry d := by
    rw [Pipeline.ownSems0_none, arrays_entry V R d]
    iintro ⟨⟨⟨H0, H1, H2, H3, H4⟩, H5, ⟨%W, %hW, HO⟩⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · unfold Pipeline.prefHeld; rw [show (Finset.univ : Finset (Fin 0)) = ∅ from rfl, BI.bigSep_empty]; iempintro
    isplitl [HO]
    · iexists W; isplitr; · ipureintro; exact hW.trans Set.subset_union_left
      iexact HO
    isplitr; · iempintro
    iempintro
  hin d := by
    rw [show (rdats V R 0 d).Φ 0 = _ from inv_zero V R d 0 rfl]
    iintro ⟨-, -, Hr⟩
    ihave H := (Entails.of_eq (scopedRest1_eq d)) $$ Hr
    icases H with ⟨%f, H⟩
    iexists f
    rw [owns_whole]
    iexact H
  hout d := by
    rw [Pipeline.ownSems0_none, show (rdats V R 0 d).Φ (Fin.last cfg1.N) = _ from inv_pos V R d (Fin.last cfg1.N) (by decide)]
    refine (Entails.of_eq (owns_whole _ _ _ _)).trans ?_
    iintro H
    isplitr; · iempintro
    isplitr; · iempintro
    iapply (Entails.of_eq (scopedRest1_eq d).symm)
    iexists (hid V d)
    iexact H
  hexit d := by
    iintro ⟨Ha, HO, -, -⟩
    imodintro
    ihave H := (arrays_exit V R d) $$ Ha
    icases H with ⟨Hi, Hf⟩
    isplitl [Hi]; · iexact Hi
    isplitl [Hf]; · iexact Hf
    iexact HO

end Cert.Proof.Segment

end
-- ==== Proof.Main.lean ====
/-
  The whole program, run once for any float values: the launch's ghost state, the host's operations, the SparseCore call and
  the TensorCore call in their order on each device, and what they leave in the arrays.
-/
module

public import proofs.«01_k».proof.Proof.Tile
public import proofs.«01_k».proof.Proof.Segment
public import Idealize.ShloMosaic.Lib.SparseCore.Quiescent
public import Idealize.ShloMosaic.Lib.StableHlo.Run

@[expose] public section

set_option maxRecDepth 16384

noncomputable section

namespace Cert.Proof.Main

open Cert.KernelIdeal Cert.KernelIdeal.Gen Cert.Proof.Setup Cert.Proof.Tile Cert.Proof.Region Cert.Proof.Segment

open Idealize.ShloMosaic Idealize.ShloMosaic.TcCoe
open Idealize.ShloMosaic.SparseCore (S V T)
open Idealize.ShloMosaic.SparseCore.Cfg (HIx Pay)
open Idealize.ShloMosaic.Pipeline (RDat owesWithin cellsGhost toksInit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## One operation of the host, over the two arrays that it names -/

/-- Two arrays at given contents, the others at the launch's. -/
def val2 (d : Dev nD) (x y : Ref sig .tc) (X : x.ty.Contents (Elt F)) (Y : y.ty.Contents (Elt F)) : Valuation τ sig (Elt F) :=
  Function.update (Function.update (fun b => m (d, b)) (Proc.devRef .tc x) X) (Proc.devRef .tc y) Y

theorem val2_y (d : Dev nD) (x y : Ref sig .tc) (X : x.ty.Contents (Elt F)) (Y : y.ty.Contents (Elt F)) : val2 m d x y X Y (Proc.devRef .tc y) = Y :=
  Function.update_self _ _ _
theorem val2_x (d : Dev nD) {x y : Ref sig .tc} (h : x ≠ y) (X : x.ty.Contents (Elt F)) (Y : y.ty.Contents (Elt F)) : val2 m d x y X Y (Proc.devRef .tc x) = X :=
  (Function.update_of_ne (StableHlo.devRef_ne_of_ne h) _ _).trans (Function.update_self _ _ _)

theorem held_pair (d : Dev nD) {x y : Ref sig .tc} (h : x ≠ y) (W : Valuation τ sig (Elt F)) :
    (held (T d) {Proc.devRef .tc x, Proc.devRef .tc y} W : sProp 𝕄) = iprop(pt d x (W (Proc.devRef .tc x)) ∗ pt d y (W (Proc.devRef .tc y))) := by
  unfold held
  rw [SparseCore.bigSep_insert' (by rw [Finset.mem_singleton]; exact StableHlo.devRef_ne_of_ne h), bigSep_singleton]

include m in
/-- One operation from `x` to `y`: `x` kept, `y` at what the operation makes of `x`. -/
theorem wp_step (d : Dev nD) {x y : Ref sig .tc} (h : x ≠ y) (op : HloOp τ sig (Elt F)) (hb : op.bufs = {Proc.devRef .tc x, Proc.devRef .tc y})
    (f : x.ty.Contents (Elt F) → y.ty.Contents (Elt F))
    (hy : ∀ W : Valuation τ sig (Elt F), op.result W (Proc.devRef .tc y) = f (W (Proc.devRef .tc x)))
    (hx : ∀ W : Valuation τ sig (Elt F), op.result W (Proc.devRef .tc x) = W (Proc.devRef .tc x)) (hf : op.fresh = ∅)
    (X : x.ty.Contents (Elt F)) (Y : y.ty.Contents (Elt F)) (Φ : PUnit → sProp 𝕄) :
    iprop((boundary (T d) ∗ pt d x X ∗ pt d y Y) ∗ ((boundary (T d) ∗ pt d x X ∗ pt d y (f X)) -∗ Φ ⟨⟩))
      ⊢ wp frame (wpE ((K (F := F)).defs (D (F := F))) 𝒱 (T d) none) Set.univ (hlo rfl op (fun _ => .ret ⟨⟩)) Φ := by
  iintro ⟨⟨Hb, Hx, Hy⟩, Hk⟩
  iapply (wp_hlo_within 𝒱 (T d) none Set.univ (op := op) (S := {Proc.devRef .tc x, Proc.devRef .tc y}) (hb ▸ Finset.Subset.refl _) (V := val2 m d x y X Y) (hf := hf)) $$ [Hb Hx Hy]
  · isplitl [Hb]; · iexact Hb
    rw [held_pair d h, val2_y, val2_x m d h]
    isplitl [Hx] <;> iassumption
  iintro ⟨Hb, Hh⟩
  rw [wp_ret]; imodintro
  iapply Hk
  isplitl [Hb]; · iexact Hb
  ihave H := (Entails.of_eq (held_pair d h _)) $$ Hh
  rw [hy, hx, val2_x m d h]
  iexact H

/-! ## The host's arrays -/

/-- The table, transposed. -/
def tbl (d : Dev nD) : S16x100000.Idx → Elt F .f32 :=
  transpose S16x100000 [1, 0] (m ((d.tc : Thread nD τ).loc main_arg1) : S100000x16.Idx → Elt F .f32) transposes_S100000x16_S16x100000_1_0
/-- The list of indices: the matrix of them, transposed, … -/
def idxT (d : Dev nD) : S5x1024.Idx → Elt F .i32 :=
  transpose S5x1024 [1, 0] (m ((d.tc : Thread nD τ).loc main_arg0) : S1024x5.Idx → Elt F .i32) transposes_S1024x5_S5x1024_1_0
/-- … read off row by row. -/
def idxs (d : Dev nD) : S5120.Idx → Elt F .i32 := shapeCast S5120 (idxT m d) shapeCasts_S5x1024_S5120
/-- What the SparseCore call is launched with in its output. -/
abbrev out₀ (d : Dev nD) : S16x5120.Idx → Elt F .f32 := m ((d.tc : Thread nD τ).loc main_v3)
/-- The gathered rows. -/
abbrev rows (d : Dev nD) : S16x5120.Idx → Elt F .f32 := gathered (tbl m d) (idxs m d)
/-- The first bias as a row, and the second. -/
def b1 (d : Dev nD) : S1x64.Idx → Elt F .f32 := shapeCast S1x64 (m ((d.tc : Thread nD τ).loc main_arg3) : S64.Idx → Elt F .f32) shapeCasts_S64_S1x64
def b2 (d : Dev nD) : S1x100000.Idx → Elt F .f32 := shapeCast S1x100000 (m ((d.tc : Thread nD τ).loc main_arg5) : S100000.Idx → Elt F .f32) shapeCasts_S100000_S1x100000

/-- What the TensorCore call finds in the arrays. -/
def Vc (d : Dev nD) : (b : Ref sig .tc) → Buf (Elt F) ((d.tc : Thread nD τ).loc b) :=
  Function.update (Function.update (Function.update (fun b => m ((d.tc : Thread nD τ).loc b)) main_v3 (rows m d)) main_v4 (b1 m d)) main_v5 (b2 m d)

theorem Vc_v3 (d : Dev nD) : Vc m d main_v3 = rows m d := by
  unfold Vc; rw [Function.update_of_ne (by decide), Function.update_of_ne (by decide), Function.update_self]
theorem Vc_v4 (d : Dev nD) : Vc m d main_v4 = b1 m d := by
  unfold Vc; rw [Function.update_of_ne (by decide), Function.update_self]
theorem Vc_v5 (d : Dev nD) : Vc m d main_v5 = b2 m d := by
  unfold Vc; rw [Function.update_self]
theorem Vc_arg2 (d : Dev nD) : Vc m d main_arg2 = m ((d.tc : Thread nD τ).loc main_arg2) := by
  unfold Vc; rw [Function.update_of_ne (by decide), Function.update_of_ne (by decide), Function.update_of_ne (by decide)]
theorem Vc_arg4 (d : Dev nD) : Vc m d main_arg4 = m ((d.tc : Thread nD τ).loc main_arg4) := by
  unfold Vc; rw [Function.update_of_ne (by decide), Function.update_of_ne (by decide), Function.update_of_ne (by decide)]
theorem Vc_v6 (d : Dev nD) : Vc m d main_v6 = m ((d.tc : Thread nD τ).loc main_v6) := by
  unfold Vc; rw [Function.update_of_ne (by decide), Function.update_of_ne (by decide), Function.update_of_ne (by decide)]

/-- The waits that the TensorCore may have on record once the SparseCore call is over. -/
def Rw (d : Dev nD) : Set (SemLoc sig × HIx 1) := {p | (K (F := F)).lev (T d, p.1) p.2 ≤ 8}

/-- The TensorCore call's proof data in the program. -/
abbrev rd (d : Dev nD) : RDat τ (Elt F) (HIx 1) ℕ UU ℕ cfg1 d := rdats (Vc m) (Rw (F := F)) 0 d

abbrev Pm : (K (F := F)).Pay (nD := nD) (Val := Elt F) (Name := ℕ) (U := UU) := P (tbl m) (idxs m) (out₀ m)

/-! ## The SparseCore call's operands, dealt out and collected -/

theorem bigSep_tasks (Φ : Fin 16 → sProp (MT nD τ sig (HIx 1) (Elt F) ℕ UU ℕ)) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp (MT nD τ sig (HIx 1) (Elt F) ℕ UU ℕ)) :
    (bigSep Finset.univ fun i : Fin ((K (F := F)).nCore 0) => Φ (Fin.cast nCore_zero i)) = bigSep Finset.univ Φ :=
  bigSep_congr fun _ _ => congrArg Φ (Fin.ext rfl)

/-- A SparseCore's operands to its tiles and back. -/
theorem vecSplit : (K (F := F)).VecSplit' (Pm m) 0 := by
  intro d c
  show part (tbl m) (idxs m) d (qC (Fin.cast nCore_zero c)) (oCoreSet (Fin.cast nCore_zero c)) (out₀ m d) ⊢ |={Set.univ}=> iprop(
      (bigSep Finset.univ fun i : Fin ((K (F := F)).nSub 0) =>
        part (tbl m) (idxs m) d (qT (Fin.cast nCore_zero c) (Fin.cast nSub_zero i)) (oSet (Fin.cast nCore_zero c) (Fin.cast nSub_zero i)) (out₀ m d))
      ∗ ((bigSep Finset.univ fun i : Fin ((K (F := F)).nSub 0) =>
          part (tbl m) (idxs m) d (qT (Fin.cast nCore_zero c) (Fin.cast nSub_zero i)) (oSet (Fin.cast nCore_zero c) (Fin.cast nSub_zero i)) (rows m d))
          -∗ part (tbl m) (idxs m) d (qC (Fin.cast nCore_zero c)) (oCoreSet (Fin.cast nCore_zero c)) (rows m d)))
  rw [bigSep_tasks (F := F) (fun i => part (tbl m) (idxs m) d (qT (Fin.cast nCore_zero c) i) (oSet (Fin.cast nCore_zero c) i) (out₀ m d)),
    bigSep_tasks (F := F) (fun i => part (tbl m) (idxs m) d (qT (Fin.cast nCore_zero c) i) (oSet (Fin.cast nCore_zero c) i) (rows m d)),
    ← part_split, ← part_split]
  iintro H; imodintro
  isplitl [H]; · iexact H
  iintro H; iexact H

/-- The call's operands to the SparseCores, -/
theorem st_eq (d : Dev nD) : (bigSep Finset.univ fun c : Fin ((K (F := F)).nCore 0) => (Pm m).st 0 d c)
    = part (tbl m) (idxs m) d fullShare Finset.univ (out₀ m d) := by
  rw [part_split_cores]
  exact bigSep_cores (F := F) (fun c => part (tbl m) (idxs m) d (qC c) (oCoreSet c) (out₀ m d))
/-- and its results from them. -/
theorem dn_eq (d : Dev nD) : (bigSep Finset.univ fun c : Fin ((K (F := F)).nCore 0) => (Pm m).dn 0 d c)
    = part (tbl m) (idxs m) d fullShare Finset.univ (rows m d) := by
  rw [part_split_cores]
  exact bigSep_cores (F := F) (fun c => part (tbl m) (idxs m) d (qC c) (oCoreSet c) (rows m d))

/-! ## The launch's ghost state -/

/-- The handshakes' rounds, the TensorCore call's rounds. -/
def u₀ : UU := (initOf (K (F := F)).hsCells (K (F := F)).hsToks, (initOf (Pipeline.cells cfgs cellOf_inj) (Pipeline.launchToks cfgs cellOf_inj), 1))

/-- What the launch deals a device beside the library's own: the TensorCore call's rounds. -/
abbrev G (d : Dev nD) : sProp 𝕄 := iprop(cellsGhost cfgs EP 0 d ∗ toksInit cfgs EP 0 d)

theorem bigSep_emp' {I : Type} (s : Finset I) : (bigSep s fun _ => iprop(emp)) = (iprop(emp) : sProp (MT nD τ sig (HIx 1) (Elt F) ℕ UU ℕ)) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  unfold u₀
  iintro Hu
  ihave H := (ownU_parts _ _ _) $$ Hu
  icases H with ⟨HH, HP⟩
  ihave HG := (Pipeline.fund_ghost cfgs EP cellOf_inj) $$ HP
  imod HG
  imodintro
  isplitl [HH]; · iexact HH
  isplitl [HG]
  · rw [bigSep_sep']
    rw [show (bigSep Finset.univ fun c : Dev nD => bigSep Finset.univ fun p : Fin 1 => (cellsGhost cfgs EP p c : sProp 𝕄)) = bigSep Finset.univ fun c : Dev nD => cellsGhost cfgs EP 0 c from
        bigSep_congr fun _ _ => bigSep_univ_of_subsingleton (0 : Fin 1),
      show (bigSep Finset.univ fun c : Dev nD => bigSep Finset.univ fun p : Fin 1 => (toksInit cfgs EP p c : sProp 𝕄)) = bigSep Finset.univ fun c : Dev nD => toksInit cfgs EP 0 c from
        bigSep_congr fun _ _ => bigSep_univ_of_subsingleton (0 : Fin 1)]
    iexact HG
  rw [show (bigSep Finset.univ fun thr : Thread nD τ => bigSep Finset.univ fun q : Fin 1 => (Pm m).x q thr) = bigSep Finset.univ fun _ => iprop(emp) from
    bigSep_congr fun _ _ => bigSep_univ_of_subsingleton (0 : Fin 1), bigSep_emp']
  iempintro

/-! ## The program on the TensorCore -/

theorem unscopedBufs_eq (d : Dev nD) (W : (b : Ref sig .tc) → Buf (Elt F) ((d.tc : Thread nD τ).loc b)) :
    (unscopedBufs d W : sProp 𝕄) = iprop(pt d main_arg0 (W main_arg0) ∗ pt d main_arg1 (W main_arg1) ∗ pt d main_arg2 (W main_arg2) ∗ pt d main_arg3 (W main_arg3)
      ∗ pt d main_arg4 (W main_arg4) ∗ pt d main_arg5 (W main_arg5) ∗ pt d main_v0 (W main_v0) ∗ pt d main_v1 (W main_v1) ∗ pt d main_v2 (W main_v2) ∗ pt d main_v3 (W main_v3)
      ∗ pt d main_v4 (W main_v4) ∗ pt d main_v5 (W main_v5) ∗ pt d main_v6 (W main_v6) ∗ pt d main_v7 (W main_v7)) := by
  unfold unscopedBufs
  rw [show (Finset.univ.filter fun b : Ref sig .tc => ¬ b.isScoped) = {main_arg0, main_arg1, main_arg2, main_arg3, main_arg4, main_arg5, main_v0, main_v1, main_v2, main_v3,
      main_v4, main_v5, main_v6, main_v7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- What the program leaves: the arguments as they were, the result the transpose of one of the arrays that the TensorCore
    call may leave. -/
abbrev FIN (d : Dev nD) : sProp 𝕄 :=
  iprop(pt d main_arg0 (m ((d.tc : Thread nD τ).loc main_arg0)) ∗ pt d main_arg1 (m ((d.tc : Thread nD τ).loc main_arg1)) ∗ pt d main_arg2 (m ((d.tc : Thread nD τ).loc main_arg2))
    ∗ pt d main_arg3 (m ((d.tc : Thread nD τ).loc main_arg3)) ∗ pt d main_arg4 (m ((d.tc : Thread nD τ).loc main_arg4)) ∗ pt d main_arg5 (m ((d.tc : Thread nD τ).loc main_arg5))
    ∗ ∃ f : S100000x1024.Idx → Elt F .f32, ⌜(rd m d).ArrAt 5 cfg1.N f⌝
      ∗ pt d main_v7 (transpose S1024x100000 [1, 0] f transposes_S100000x1024_S1024x100000_1_0))

set_option backward.isDefEq.respectTransparency.types false in
/-- The TensorCore call's own step, from its arrays to its arrays. -/
theorem wp_entry (d : Dev nD) (Φ : PUnit.{1} → sProp (MT nD τ sig (HIx 1) (Elt F) ℕ UU ℕ)) :
    iprop(((boundary (d.tc : Thread nD τ) ∗ (seg (Vc m) (Rw (F := F))).post d) -∗ Φ ⟨⟩)
        ∗ boundary (d.tc : Thread nD τ) ∗ (seg (Vc m) (Rw (F := F))).pre d ∗ levAts (K (F := F)).L (K (F := F)).lev ∗ cellsGhost cfgs EP 0 d ∗ toksInit cfgs EP 0 d)
      ⊢ wp frame (wpE (D (F := F)) 𝒱 (d.tc : Thread nD τ) none) Set.univ
          (.op (.customCall (Pipeline.entry 0) ()) fun _ => .ret ⟨⟩ : Prog (TpuEff nD τ sig (Elt F) (ΛP (F := F)) .tc) PUnit) Φ := by
  have hs := RDat.RegionSeg.wp (pcfgs (F := F)) (adm (F := F)) (rdats (Vc m) (Rw (F := F))) (none : HIx 1) cellOf_inj EP defs₀ 𝒱₀ (K (F := F)).L (K (F := F)).lev
    (seg (Vc m) (Rw (F := F))) d none (fun _ h => nomatch h) (fun _ => .ret PUnit.unit) Φ
  refine Entails.trans (sep_mono_left ?_) hs
  iintro Hk H
  rw [wp_ret]; imodintro
  iapply Hk; iexact H

set_option backward.isDefEq.respectTransparency.types false in
/-- The TensorCore call inside the program. -/
theorem wp_call (d : Dev nD) (Φ : PUnit.{1} → sProp (MT nD τ sig (HIx 1) (Elt F) ℕ UU ℕ)) :
    wp frame (wpE (D (F := F)) 𝒱 (d.tc : Thread nD τ) none) Set.univ
          (.op (.customCall (Pipeline.entry 0) ()) fun _ => .ret ⟨⟩ : Prog (TpuEff nD τ sig (Elt F) (ΛP (F := F)) .tc) PUnit) Φ
      ⊢ wp frame (wpE ((K (F := F)).defs (D (F := F))) 𝒱 (T d) none) Set.univ
          (Prog.lift (.customCall (SparseCore.inner (Pipeline.entry 0)) ()) : Prog (TpuEff nD τ sig (Elt F) (SparseCore.Sig (ΛP (F := F)) 1) .tc) PUnit) Φ := by
  have hl := (K (F := F)).wp_liftProg (D (F := F)) 𝒱 (T d) Set.univ none (.op (.customCall (Pipeline.entry 0) ()) fun _ => .ret PUnit.unit) Φ
  exact hl

/-- The TensorCore call in the program, from the TensorCore's state after the SparseCore call. -/
theorem wp_region (κ : GSem nD τ sig → ℕ) (d : Dev nD) (Φ : PUnit.{1} → sProp (MT nD τ sig (HIx 1) (Elt F) ℕ UU ℕ)) :
    iprop(((boundary (T d) ∗ (K (F := F)).tcSt EH d 1 ∗ ins (Vc m) d ∗ ∃ f, ⌜(rd m d).ArrAt 5 cfg1.N f⌝ ∗ pt d main_v6 f) -∗ Φ ⟨⟩)
        ∗ (K (F := F)).ctx EH (Pm m) κ ∗ boundary (T d) ∗ (K (F := F)).tcSt EH d 1 ∗ G d ∗ ins (Vc m) d ∗ pt d main_v6 (Vc m d main_v6))
      ⊢ wp frame (wpE ((K (F := F)).defs (D (F := F))) 𝒱 (T d) none) Set.univ
          (Prog.lift (.customCall (SparseCore.inner (Pipeline.entry 0)) ()) : Prog (TpuEff nD τ sig (Elt F) (SparseCore.Sig (ΛP (F := F)) 1) .tc) PUnit) Φ := by
  refine BI.Entails.trans ?_ (wp_call d Φ)
  refine BI.Entails.trans ?_ (wp_entry m d Φ)
  unfold SparseCore.Cfg.tcSt
  rw [(K (F := F)).Otc_end d (le_refl 1)]
  show _ ⊢ iprop(((boundary (d.tc : Thread nD τ) ∗ ins (Vc m) d ∗ (∃ f, ⌜(rd m d).ArrAt 5 cfg1.N f⌝ ∗ pt d main_v6 f) ∗ owesWithin d 0 (Rw (F := F) d ∪ cfg1.waitPairs none)) -∗ Φ ⟨⟩)
        ∗ boundary (d.tc : Thread nD τ) ∗ (ins (Vc m) d ∗ pt d main_v6 (Vc m d main_v6) ∗ owesWithin d 0 (Rw (F := F) d)) ∗ levAts (K (F := F)).L (K (F := F)).lev ∗ cellsGhost cfgs EP 0 d ∗ toksInit cfgs EP 0 d)
  iintro ⟨Hk, #Hctx, Hb, ⟨⟨%W, %hW, HO⟩, Hrest⟩, ⟨Hg, Ht⟩, Hi, Ho⟩
  isplitl [Hk Hrest]
  · iintro ⟨Hb, Hi, Hf, ⟨%W', %hW', HO⟩⟩
    iapply Hk
    isplitl [Hb]; · iexact Hb
    isplitl [HO Hrest]
    · isplitl [HO]
      · iexists W'
        isplitr
        · ipureintro
          intro p hp
          rcases hW' hp with h | ⟨w, s, rfl⟩
          · exact h
          · exact Nat.zero_le _
        iexact HO
      iexact Hrest
    isplitl [Hi]; · iexact Hi
    iexact Hf
  isplitl [Hb]; · iexact Hb
  isplitl [Hi Ho HO]
  · isplitl [Hi]; · iexact Hi
    isplitl [Ho]; · iexact Ho
    iexists W
    isplitr
    · ipureintro
      intro p hp
      exact hW p hp
    iexact HO
  isplitr; · iapply (SparseCore.Cfg.ctx_levAts κ); iexact Hctx
  isplitl [Hg] <;> iassumption

theorem fresh_unary {x y : Ref sig .tc} (f : x.ty.Contents (Elt F) → y.ty.Contents (Elt F)) (hx hy) :
    (StableHlo.unary (τ := τ) x y f hx hy).fresh = ∅ := rfl

include m in
/-- One elementwise operation or transpose of the host. -/
theorem wp_unary (d : Dev nD) {x y : Ref sig .tc} (h : x ≠ y) (f : x.ty.Contents (Elt F) → y.ty.Contents (Elt F)) (hx hy)
    (X : x.ty.Contents (Elt F)) (Y : y.ty.Contents (Elt F)) (Φ : PUnit → sProp (MT nD τ sig (HIx 1) (Elt F) ℕ UU ℕ)) :
    iprop((boundary (T d) ∗ pt d x X ∗ pt d y Y) ∗ ((boundary (T d) ∗ pt d x X ∗ pt d y (f X)) -∗ Φ ⟨⟩))
      ⊢ wp frame (wpE ((K (F := F)).defs (D (F := F))) 𝒱 (T d) none) Set.univ (hlo rfl (StableHlo.unary x y f hx hy) (fun _ => .ret ⟨⟩)) Φ :=
  wp_step m d h _ rfl f (fun W => StableHlo.unary_result x y f hx hy W) (fun W => StableHlo.unary_result_ne _ _ f hx hy W h) rfl X Y Φ

/-- What a reshape of the host makes of its operand. -/
def reshaped {x y : Ref sig .tc} (he : x.ty.elt = y.ty.elt) (hn : x.ty.shape.ShapeCasts y.ty.shape) (X : x.ty.Contents (Elt F)) : y.ty.Contents (Elt F) :=
  fun i => he ▸ shapeCast y.ty.shape X hn i

include m in
/-- One reshape of the host. -/
theorem wp_reshape (d : Dev nD) {x y : Ref sig .tc} (h : x ≠ y) (he : x.ty.elt = y.ty.elt) (hn : x.ty.shape.ShapeCasts y.ty.shape) (hx hy)
    (X : x.ty.Contents (Elt F)) (Y : y.ty.Contents (Elt F)) (Φ : PUnit → sProp (MT nD τ sig (HIx 1) (Elt F) ℕ UU ℕ)) :
    iprop((boundary (T d) ∗ pt d x X ∗ pt d y Y) ∗ ((boundary (T d) ∗ pt d x X ∗ pt d y (reshaped he hn X)) -∗ Φ ⟨⟩))
      ⊢ wp frame (wpE ((K (F := F)).defs (D (F := F))) 𝒱 (T d) none) Set.univ (hlo rfl (StableHlo.reshape x y he hn hx hy) (fun _ => .ret ⟨⟩)) Φ := by
  refine wp_step m d h (StableHlo.reshape x y he hn hx hy) ?_ (reshaped he hn) ?_ ?_ ?_ X Y Φ
  · rfl
  · intro W; exact StableHlo.reshape_result x y he hn hx hy W
  · intro W; exact StableHlo.reshape_result_ne _ _ he hn hx hy W h
  · rfl

/-- The program on a device's TensorCore. -/
theorem hmain (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨A0, A1, A2, A3, A4, A5, V0, V1, V2, V3, V4, V5, V6, V7⟩, Hts, -⟩, HG⟩
  -- the indices' matrix transposed, flattened; the table transposed
  iapply (wp_unary m d (x := main_arg0) (y := main_v0) (by decide) _ _ _ _ _ _)
  isplitl [Hb A0 V0]; · isplitl [Hb]; · iexact Hb
                        isplitl [A0] <;> iassumption
  iintro ⟨Hb, A0, V0⟩
  iapply (wp_reshape m d (x := main_v0) (y := main_v1) (by decide) _ _ _ _ _ _ _)
  isplitl [Hb V0 V1]; · isplitl [Hb]; · iexact Hb
                        isplitl [V0] <;> iassumption
  iintro ⟨Hb, V0, V1⟩
  iapply (wp_unary m d (x := main_arg1) (y := main_v2) (by decide) _ _ _ _ _ _)
  isplitl [Hb A1 V2]; · isplitl [Hb]; · iexact Hb
                        isplitl [A1] <;> iassumption
  iintro ⟨Hb, A1, V2⟩
  -- the SparseCore call
  iapply ((K (F := F)).wp_run (D (F := F)) 𝒱 (EH := EH) (P := Pm m) κ d 0)
  isplitr; · iexact Hctx
  isplitl [Hst]; · iexact Hst
  isplitl [V1 V2 V3]
  · rw [st_eq]
    isplitl [V1]; · iexact V1
    isplitl [V2]; · iexact V2
    iexact V3
  iintro ⟨Hst, Hdn⟩
  ihave Hdn' := (Entails.of_eq (dn_eq m d)) $$ Hdn
  icases Hdn' with ⟨V1, V2, V3⟩
  -- the biases as rows
  iapply (wp_reshape m d (x := main_arg3) (y := main_v4) (by decide) _ _ _ _ _ _ _)
  isplitl [Hb A3 V4]; · isplitl [Hb]; · iexact Hb
                        isplitl [A3] <;> iassumption
  iintro ⟨Hb, A3, V4⟩
  iapply (wp_reshape m d (x := main_arg5) (y := main_v5) (by decide) _ _ _ _ _ _ _)
  isplitl [Hb A5 V5]; · isplitl [Hb]; · iexact Hb
                        isplitl [A5] <;> iassumption
  iintro ⟨Hb, A5, V5⟩
  -- the TensorCore call
  iapply (wp_region m κ d _)
  isplitr [Hb Hst HG A2 A4 V3 V4 V5 V6]
  · iintro ⟨Hb, Hst, ⟨-, A2, -, A4, -⟩, ⟨%f, %hf, V6⟩⟩
    iapply (wp_unary m d (x := main_v6) (y := main_v7) (by decide) _ _ _ _ _ _)
    isplitl [Hb V6 V7]; · isplitl [Hb]; · iexact Hb
                          isplitl [V6] <;> iassumption
    iintro ⟨Hb, -, V7⟩
    imodintro
    rw [Vc_arg2, Vc_arg4]
    isplitl [Hst]; · iexact Hst
    isplitr [Hb Hts]
    · isplitl [A0]; · iexact A0
      isplitl [A1]; · iexact A1
      isplitl [A2]; · iexact A2
      isplitl [A3]; · iexact A3
      isplitl [A4]; · iexact A4
      isplitl [A5]; · iexact A5
      iexists f; isplitr; · ipureintro; exact hf
      iexact V7
    isplitl [Hb] <;> iassumption
  isplitr; · iexact Hctx
  isplitl [Hb]; · iexact Hb
  isplitl [Hst]; · iexact Hst
  isplitl [HG]; · iexact HG
  unfold ins
  rw [Vc_v3, Vc_arg2, Vc_v4, Vc_arg4, Vc_v5, Vc_v6]
  isplitr [V6]
  · isplitl [V3]; · iexact V3
    isplitl [A2]; · iexact A2
    isplitl [V4]; · iexact V4
    isplitl [A4]; · iexact A4
    iexact V5
  iexact V6

end Cert.Proof.Main

end
-- ==== Proof.Run.lean ====
/-
  The program's run for any float values, from indices in range: what every device holds at the end.
-/
module

public import proofs.«01_k».proof.Proof.Main

@[expose] public section

set_option maxRecDepth 16384

noncomputable section

namespace Cert.Proof.Run

open Cert.KernelIdeal Cert.KernelIdeal.Gen Cert.Proof.Setup Cert.Proof.Tile Cert.Proof.Region Cert.Proof.Segment Cert.Proof.Main

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-- The arguments of device `d` are the launch's in the memory `μ`. -/
def Kept (d : Dev nD) (μ : (ℓ : Loc nD τ sig) → Buf (Elt F) ℓ) : Prop :=
  μ ((d.tc : Thread nD τ).loc main_arg0) = m ((d.tc : Thread nD τ).loc main_arg0)
  ∧ μ ((d.tc : Thread nD τ).loc main_arg1) = m ((d.tc : Thread nD τ).loc main_arg1)
  ∧ μ ((d.tc : Thread nD τ).loc main_arg2) = m ((d.tc : Thread nD τ).loc main_arg2)
  ∧ μ ((d.tc : Thread nD τ).loc main_arg3) = m ((d.tc : Thread nD τ).loc main_arg3)
  ∧ μ ((d.tc : Thread nD τ).loc main_arg4) = m ((d.tc : Thread nD τ).loc main_arg4)
  ∧ μ ((d.tc : Thread nD τ).loc main_arg5) = m ((d.tc : Thread nD τ).loc main_arg5)

/-- The result of device `d` is the transpose of an array that the TensorCore call may leave. -/
def Result (d : Dev nD) (μ : (ℓ : Loc nD τ sig) → Buf (Elt F) ℓ) : Prop :=
  ∃ f, (rd m d).ArrAt 5 cfg1.N f ∧ μ ((d.tc : Thread nD τ).loc main_v7) = transpose S1024x100000 [1, 0] f transposes_S100000x1024_S1024x100000_1_0

/-- What holds of device `d` in a final state. -/
def fq (d : Dev nD) (s' : Phys nD τ sig (Elt F)) : Prop := Kept m d s'.mem.mem ∧ Result m d s'.mem.mem

/-- An array held whole has the contents of the final memory. -/
theorem read_off (d : Dev nD) (s' : Phys nD τ sig (Elt F)) (b : Ref sig .tc) (f : Buf (Elt F) ((d.tc : Thread nD τ).loc b)) :
    (iprop(pt d b f ∗ SI s') : sProp 𝕄) ⊢ iprop(⌜s'.mem.mem ((d.tc : Thread nD τ).loc b) = f⌝ ∗ SI s') := by
  iintro ⟨Hb, HSI⟩
  ihave H := (persistent_entails_right (SI_pointsTo_agree (st := s') (ℓ := (d.tc : Thread nD τ).loc b) (I := Finset.univ) (q := fullShare) (f := f))) $$ [HSI Hb]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨A0, A1, A2, A3, A4, A5, ⟨%f, %hf, V7⟩⟩, HSI⟩
  ihave H := (read_off d s' main_arg0 _) $$ [A0 HSI]; · isplitl [A0] <;> iassumption
  icases H with ⟨%h0, HSI⟩
  ihave H := (read_off d s' main_arg1 _) $$ [A1 HSI]; · isplitl [A1] <;> iassumption
  icases H with ⟨%h1, HSI⟩
  ihave H := (read_off d s' main_arg2 _) $$ [A2 HSI]; · isplitl [A2] <;> iassumption
  icases H with ⟨%h2, HSI⟩
  ihave H := (read_off d s' main_arg3 _) $$ [A3 HSI]; · isplitl [A3] <;> iassumption
  icases H with ⟨%h3, HSI⟩
  ihave H := (read_off d s' main_arg4 _) $$ [A4 HSI]; · isplitl [A4] <;> iassumption
  icases H with ⟨%h4, HSI⟩
  ihave H := (read_off d s' main_arg5 _) $$ [A5 HSI]; · isplitl [A5] <;> iassumption
  icases H with ⟨%h5, HSI⟩
  ihave H := (read_off d s' main_v7 _) $$ [V7 HSI]; · isplitl [V7] <;> iassumption
  icases H with ⟨%h7, -⟩
  ipureintro; exact ⟨⟨h0, h1, h2, h3, h4, h5⟩, f, hf, h7⟩

/-- A final state: on every device the arguments kept and the result computed, every counter at zero. -/
def QC : PUnit × MemSt nD τ sig (Elt F) → Prop := fun r => (∀ c : Dev nD, Kept m c r.2.mem ∧ Result m c r.2.mem) ∧ r.2.sem = fun _ => 0

/-- Every index of the matrix names a row of the table. -/
def InRange : Prop := ∀ (d : Dev nD) (j : S1024x5.Idx), ((m ((d.tc : Thread nD τ).loc main_arg0) : S1024x5.Idx → Elt F .i32) j).toNat < 100000

variable {m} in
/-- So does every entry of the list that the tiles read. -/
theorem idxs_lt (h : InRange m) (d : Dev nD) (j : S5120.Idx) : (idxs m d j).toNat < 100000 := h d _

/-- The whole program runs and ends so. -/
theorem run_main [∀ e, Nonempty (Elt F e)] (h : InRange m) :
    θ_run (defs (F := F)) (threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (tbl m) (idxs m) (out₀ m) facts (idxs_lt h))
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Run

end
-- ==== Proof.Frames.lean ====
/-
  The range of the indices, out of the precondition, and the kernel's two frames.
-/
module

public import proofs.«01_k».proof.Proof.Run
public import proofs.«01_k».proof.Defs
public import proofs.«01_k».proof.Proof.Gen.Kernel

@[expose] public section

set_option maxRecDepth 16384

noncomputable section

namespace Cert.Proof.Frames

open Idealize.ShloMosaic Idealize.ShloMosaic.TcCoe Idealize.SL.Sem
open Cert.Proof.Run

/-- The precondition's broadcast is one. -/
instance preFacts : Cert.Pre_idx_in_vocab.Facts := ⟨by decide⟩

/-- A signed word that is at least 0 and below 100000 is that number without a sign. -/
theorem word_lt (v : BitVec 32) (e : IntOp.andi (IntOp.cmpi .sge v 0#32) (IntOp.cmpi .slt v 100000#32) = 1#1) : v.toNat < 100000 := by
  have both (p q : Bool) (h : IntOp.andi (BitVec.ofBool p) (BitVec.ofBool q) = 1#1) : p = true ∧ q = true := by
    revert p q; decide
  obtain ⟨h1, h2⟩ := both _ _ e
  have h1 : (0 : ℤ) ≤ v.toInt := by simpa [BitVec.sle_eq_decide] using h1
  have h2 : v.toInt < 100000 := by simpa [BitVec.slt_eq_decide] using h2
  rw [BitVec.toInt_eq_toNat_cond] at h1 h2
  split at h1 <;> omega

/-- The precondition, of the indices of a device: they name rows of the table. -/
theorem lt_of_pre {F : FTy → Type} [FloatOps F] {a0 a1 a2 a3 a4 a5} (h : Cert.Pre_idx_in_vocab.fn (F := F) a0 a1 a2 a3 a4 a5 = fun _ => 1#1) (j) : (a0 j).toNat < 100000 :=
  word_lt _ (congrFun h j)

/-- The two programs have the same bodies. -/
theorem bodies_eq : Cert.Kernel.defs₀ (F := Bits) = Cert.KernelIdeal.defs₀ (F := Bits) := by
  funext p l a
  match p, l, a with
  | .tc, 0, _ => rfl
  | .tc, 1, (t, s) => rfl
  | .scScalar _, 0, _ => rfl
  | .scScalar _, 1, _ => rfl
  | .scVector _ _, 0, _ => rfl
  | .scVector _ _, 1, _ => rfl

/-- … and so the same labels' meanings. -/
theorem defs_eq : Cert.Kernel.defs (F := Bits) = Cert.KernelIdeal.defs (F := Bits) :=
  congrArg (fun D => Cert.KernelIdeal.sc.defs (Pipeline.defs Cert.KernelIdeal.pcfgs D)) bodies_eq

/-- The kernel over float words, of indices in range: it runs, keeps its arguments and ends with every counter at zero. -/
theorem frame_kernel : Cert.quiescent_Kernel := by
  intro m ρ h
  rw [defs_eq]
  exact (θ_run Cert.KernelIdeal.defs _ _).mono (fun _ h => ⟨fun c => (h.1 c).1, h.2⟩) (run_main (F := Bits) m ρ fun d j => lt_of_pre (h d) j)

/-- The kernel over the extended reals, of indices in range: it runs, keeps its arguments and ends with every counter at zero. -/
theorem frame_ideal : Cert.quiescent_KernelIdeal := fun m ρ h =>
  (θ_run Cert.KernelIdeal.defs _ _).mono (fun _ h => ⟨fun c => (h.1 c).1, h.2⟩) (run_main (F := Ideal) m ρ fun d j => lt_of_pre (h d) j)

end Cert.Proof.Frames

end
-- ==== Proof.Plain.lean ====
/-
  The reference's frame: its run, read at its arguments.
-/
module

public import proofs.«01_k».proof.Proof.Frames
public import proofs.«01_k».proof.Proof.Gen.ReferenceIdeal.Run

@[expose] public section

set_option maxRecDepth 16384

noncomputable section

namespace Cert.Proof.Plain

open Idealize.ShloMosaic Idealize.ShloMosaic.TcCoe Idealize.SL.Sem

/-- The reference runs, keeps its arguments, and has no semaphore whose counter could be other than zero. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Proof.Plain

end
-- ==== Proof.Block.lean ====
/-
  Over the extended reals: what the TensorCore body's payloads are at an index.
-/
module

public import proofs.«01_k».proof.Proof.Body
public import Idealize.ShloMosaic.Lib.Pointwise

@[expose] public section

set_option maxRecDepth 16384

noncomputable section

namespace Cert.Proof.Block

open Cert.KernelIdeal Cert.KernelIdeal.Gen Cert.Proof.Body
open Idealize.ShloMosaic

/-- A block of the output: the product of the weights' block and the hidden layer, and the bias of its row. -/
theorem pay2_apply (A : S64x4096.Idx → Elt Ideal .f32) (H : S1024x64.Idx → Elt Ideal .f32) (c : S1x4096.Idx → Elt Ideal .f32) (r : Fin 4096) (b : Fin 1024) :
    k1_pay2 (F := Ideal) A H c (ix2 r b) = (∑ h : Fin 64, A (ix2 h r) * H (ix2 b h)) + c (ix2 0 r) := by
  unfold k1_pay2
  pointwise

/-- One of the five products of the hidden layer: a block of gathered rows with its block of weights. -/
def part (X1 : S16x5120.Idx → EReal) (X2 : S80x64.Idx → EReal) (b : Fin 1024) (h : Fin 64) (j : Fin 5) : EReal :=
  ∑ k : Fin 16, X1 (ix2 k ⟨1024 * j.val + b.val, by omega⟩) * X2 (ix2 ⟨16 * j.val + k.val, by omega⟩ h)

theorem hidden_apply (X1 : S16x5120.Idx → Elt Ideal .f32) (X2 : S80x64.Idx → Elt Ideal .f32) (X3 : S1x64.Idx → Elt Ideal .f32) (b : Fin 1024) (h : Fin 64) :
    Body.hidden (F := Ideal) X1 X2 X3 (ix2 b h) = max (X3 (ix2 0 h) + ∑ j : Fin 5, part X1 X2 b h j) 0 := by
  unfold Body.hidden k1_pay1 k1_pay3
  pointwise
  congr 1
  simp only [Fin.sum_univ_five, part, ← add_assoc]
  simp only [show ((0 : Fin 5) : ℕ) = 0 from rfl, show ((1 : Fin 5) : ℕ) = 1 from rfl, show ((2 : Fin 5) : ℕ) = 2 from rfl, show ((3 : Fin 5) : ℕ) = 3 from rfl,
    show ((4 : Fin 5) : ℕ) = 4 from rfl, Nat.mul_zero, Nat.zero_add, Nat.mul_one, Nat.reduceMul]

end Cert.Proof.Block

end
-- ==== Proof.Output.lean ====
/-
  The TensorCore call's output at an index: which block it lies in, and which weights and bias that block is computed from.
-/
module

public import proofs.«01_k».proof.Proof.Region
public import proofs.«01_k».proof.Proof.Block

@[expose] public section

set_option maxRecDepth 16384

noncomputable section

namespace Cert.Proof.Output

open Cert.KernelIdeal Cert.KernelIdeal.Gen Cert.Proof.Setup Cert.Proof.Region

open Idealize.ShloMosaic Idealize.ShloMosaic.TcCoe
open Idealize.ShloMosaic.SparseCore.Cfg (HIx)
open Idealize.ShloMosaic.Pipeline (RDat)

variable {F : FTy → Type} [FloatOps F]

variable (V : (d : Dev nD) → (b : Ref sig .tc) → Buf (Elt F) ((d.tc : Thread nD τ).loc b)) (R : Dev nD → Set (SemLoc sig × HIx 1))

/-- The blocks' places: block `t` of the output is its rows from `4096 t` on, cut at the array's end; -/
theorem index5 : ∀ t : Fin grid1.N, win1_5.index t 0 = t.val ∧ win1_5.index t 1 = 0 := by decide
theorem size5 : ∀ t : Fin grid1.N, win1_5.xsize (grid1.coords t) 0 = min 4096 (100000 - 4096 * t.val) ∧ win1_5.xsize (grid1.coords t) 1 = 1024 := by decide
/-- of the weights, its columns from there on; -/
theorem index3 : ∀ t : Fin grid1.N, win1_3.index t 0 = 0 ∧ win1_3.index t 1 = t.val := by decide
theorem size3 : ∀ t : Fin grid1.N, win1_3.xsize (grid1.coords t) 0 = 64 ∧ win1_3.xsize (grid1.coords t) 1 = min 4096 (100000 - 4096 * t.val) := by decide
/-- of the bias, its entries. -/
theorem index4 : ∀ t : Fin grid1.N, win1_4.index t 0 = 0 ∧ win1_4.index t 1 = t.val := by decide
theorem size4 : ∀ t : Fin grid1.N, win1_4.xsize (grid1.coords t) 0 = 1 ∧ win1_4.xsize (grid1.coords t) 1 = min 4096 (100000 - 4096 * t.val) := by decide

/-- The block that row `v` of the output lies in, -/
def blockOf (v : Fin 100000) : Fin grid1.N := ⟨v.val / 4096, by have : grid1.N = 25 := rfl; omega⟩
/-- and its row in the block. -/
def rowOf (v : Fin 100000) : Fin 4096 := ⟨v.val % 4096, by omega⟩

theorem place (v : Fin 100000) : (blockOf v).val * 4096 + 1 * (rowOf v).val = v.val := by
  show v.val / 4096 * 4096 + 1 * (v.val % 4096) = v.val; omega
theorem inside (v : Fin 100000) : (rowOf v).val < min 4096 (100000 - 4096 * (blockOf v).val) := by
  show v.val % 4096 < min 4096 (100000 - 4096 * (v.val / 4096)); omega

/-- A fetched block of weights, at a column that the array has. -/
theorem w2At_apply (d : Dev nD) (v : Fin 100000) (x : S64x4096.Idx → Elt F .f32) (h : Fin 64) :
    w2At V d (blockOf v) x (ix2 h (rowOf v)) = (V d main_arg4 : S64x100000.Idx → Elt F .f32) (ix2 h v) := by
  unfold w2At Pipeline.Window.fill
  have hm : ∀ a, ((ix2 h (rowOf v) : S64x4096.Idx) a).val < win1_3.xsize (grid1.coords (blockOf v)) a := by
    intro a
    match a with
    | ⟨0, _⟩ => exact (h.isLt : _ < _).trans_eq (size3 (blockOf v)).1.symm
    | ⟨1, _⟩ => exact (inside v : _ < _).trans_eq (size3 (blockOf v)).2.symm
  rw [dif_pos ((win1_3.moved_iff _ _).mpr hm)]
  show (V d main_arg4 : S64x100000.Idx → Elt F .f32) _ = (V d main_arg4 : S64x100000.Idx → Elt F .f32) _
  congr 1
  funext a
  refine Fin.ext ?_
  match a with
  | ⟨0, _⟩ => show win1_3.index (blockOf v) 0 * 64 + 1 * h.val = h.val; rw [(index3 _).1]; omega
  | ⟨1, _⟩ => show win1_3.index (blockOf v) 1 * 4096 + 1 * (rowOf v).val = v.val; rw [(index3 _).2]; exact place v

/-- A fetched block of the bias, at an entry that the array has. -/
theorem b2At_apply (d : Dev nD) (v : Fin 100000) (x : S1x4096.Idx → Elt F .f32) :
    b2At V d (blockOf v) x (ix2 0 (rowOf v)) = (V d main_v5 : S1x100000.Idx → Elt F .f32) (ix2 0 v) := by
  unfold b2At Pipeline.Window.fill
  have hm : ∀ a, ((ix2 0 (rowOf v) : S1x4096.Idx) a).val < win1_4.xsize (grid1.coords (blockOf v)) a := by
    intro a
    match a with
    | ⟨0, _⟩ => exact (Nat.one_pos : _ < _).trans_eq (size4 (blockOf v)).1.symm
    | ⟨1, _⟩ => exact (inside v : _ < _).trans_eq (size4 (blockOf v)).2.symm
  rw [dif_pos ((win1_4.moved_iff _ _).mpr hm)]
  show (V d main_v5 : S1x100000.Idx → Elt F .f32) _ = (V d main_v5 : S1x100000.Idx → Elt F .f32) _
  congr 1
  funext a
  refine Fin.ext ?_
  match a with
  | ⟨0, _⟩ => show win1_4.index (blockOf v) 0 * 1 + 1 * 0 = 0; rw [(index4 _).1]
  | ⟨1, _⟩ => show win1_4.index (blockOf v) 1 * 4096 + 1 * (rowOf v).val = v.val; rw [(index4 _).2]; exact place v

/-- The output at row `v`: its block's payload there. -/
theorem out_at (d : Dev nD) (f : S100000x1024.Idx → Elt F .f32) (hf : (rdats V R 0 d).ArrAt 5 cfg1.N f) (v : Fin 100000) (b : Fin 1024) :
    ∃ x y, f (ix2 v b) = k1_pay2 (w2At V d (blockOf v) x) (hid V d) (b2At V d (blockOf v) y) (ix2 (rowOf v) b) := by
  have hd : ∀ t u : Fin cfg1.N, t ≠ u → Disjoint ((cfg1.win 5).blk t).view.set (((cfg1.win 5).blk u).view.setOn Finset.univ) := by
    intro t u h
    refine win1_5.disjoint_blk fun e => h (Fin.ext ?_)
    have := congrFun e 0
    rwa [(index5 t).1, (index5 u).1] at this
  obtain ⟨X, ⟨Y, -, hX⟩, hr⟩ := blocks_left (rdats V R 0 d) 5 flush1_5 hd cfg1.N f le_rfl hf (blockOf v) (blockOf v).isLt
  obtain ⟨x, y, rfl⟩ := hX
  refine ⟨x, y, ?_⟩
  have hm : ∀ a, ((ix2 (rowOf v) b : S4096x1024.Idx) a).val < win1_5.xsize (grid1.coords (blockOf v)) a := by
    intro a
    match a with
    | ⟨0, _⟩ => exact (inside v : _ < _).trans_eq (size5 (blockOf v)).1.symm
    | ⟨1, _⟩ => exact (b.isLt : _ < _).trans_eq (size5 (blockOf v)).2.symm
  have e := congrFun hr (fun a => ⟨((ix2 (rowOf v) b : S4096x1024.Idx) a).val, hm a⟩)
  refine Eq.trans ?_ (e.trans rfl)
  show f _ = f _
  congr 1
  funext a
  refine Fin.ext ?_
  match a with
  | ⟨0, _⟩ => show v.val = win1_5.index (blockOf v) 0 * 4096 + 1 * (rowOf v).val; rw [(index5 _).1]; exact (place v).symm
  | ⟨1, _⟩ => show b.val = win1_5.index (blockOf v) 1 * 1024 + 1 * b.val; rw [(index5 _).2]; omega

end Cert.Proof.Output

end
-- ==== Proof.Lookup.lean ====
/-
  Over the extended reals: what the reference computes, at an index.
-/
module

public import proofs.«01_k».proof.Proof.Gen.ReferenceIdeal.Run
public import Idealize.ShloMosaic.Lib.Pointwise

@[expose] public section

set_option maxRecDepth 16384

noncomputable section

namespace Cert.Proof.Lookup

open Cert.ReferenceIdeal Cert.ReferenceIdeal.Gen
open Idealize.ShloMosaic

/-- An index of the list, a negative one counted from the end. -/
def wrapped (ix : S1024x5.Idx → BitVec 32) : IVec S1024x5x1 32 :=
  broadcastInDim S1024x5x1 ![0, 1] bcast_S1024x5_S1024x5x1_0_1 (select (cmpi .slt ix (broadcastInDim S1024x5 ![] bcast_S_S1024x5 (constantI S_ 32 0#32))) (addi ix (broadcastInDim S1024x5 ![] bcast_S_S1024x5 (constantI S_ 32 100000#32))) ix)

/-- The rows that the reference takes from the table. -/
def taken (ix : S1024x5.Idx → BitVec 32) (tb : S100000x16.Idx → Elt Ideal .f32) : FVec Ideal S1024x5x16 .f32 :=
  select (broadcastInDim S1024x5x16 ![0, 1] bcast_S1024x5_S1024x5x16_0_1
      (Host.reduce IntOp.andi (andi (cmpi .sge (wrapped ix) (broadcastInDim S1024x5x1 ![] bcast_S_S1024x5x1 (constantI S_ 32 0#32)))
        (cmpi .sle (wrapped ix) (broadcastInDim S1024x5x1 ![0, 1, 2] bcast_S1x1x1_S1024x5x1_0_1_2 (broadcastInDim S1x1x1 ![2] bcast_S1_S1x1x1_2 (constantI S1 32 99999#32)))))
        (constantI S_ 1 1#1) reducesTo_S1024x5x1_S1024x5_d2 h_S_))
    (Host.gather gather_S100000x16_S1024x5x1_S1024x5x16_2_0_n_n_0_2_116 tb (wrapped ix))
    (broadcastInDim S1024x5x16 ![] bcast_S_S1024x5x16 (constant S_ .f32 0x7FC00000#32))

/-- The reference's result from its arguments. -/
def result (ix : S1024x5.Idx → BitVec 32) (tb : S100000x16.Idx → Elt Ideal .f32) (w1 : FVec Ideal S80x64 .f32) (c1 : FVec Ideal S64 .f32)
    (w2 : FVec Ideal S64x100000 .f32) (c2 : FVec Ideal S100000 .f32) : FVec Ideal S1024x100000 .f32 :=
  addf (Host.dotGeneral dot_S1024x64_S64x100000_S1024x100000_1_0_0_1_n_n none
      (maximumf (addf (Host.dotGeneral dot_S1024x80_S80x64_S1024x64_1_0_0_1_n_n none (shapeCast S1024x80 (taken ix tb) shapeCasts_S1024x5x16_S1024x80) w1)
          (broadcastInDim S1024x64 ![0, 1] bcast_S1x64_S1024x64_0_1 (broadcastInDim S1x64 ![1] bcast_S64_S1x64_1 c1)))
        (broadcastInDim S1024x64 ![] bcast_S_S1024x64 (constant S_ .f32 0x00000000#32))) w2)
    (broadcastInDim S1024x100000 ![0, 1] bcast_S1x100000_S1024x100000_0_1 (broadcastInDim S1x100000 ![1] bcast_S100000_S1x100000_1 c2))

theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  by
  unfold result taken wrapped
  exact Cert.ReferenceIdeal.Value.run (F := Ideal) m ρ

/-- The gather at an index: the table's row that the word names, clamped into the table. -/
theorem gather_at (tb : S100000x16.Idx → Elt Ideal .f32) (idx : IVec S1024x5x1 32) (b : Fin 1024) (j : Fin 5) (k : Fin 16) :
    Host.gather gather_S100000x16_S1024x5x1_S1024x5x16_2_0_n_n_0_2_116 tb idx (ix3 b j k)
      = tb (ix2 ⟨min (idx (ix3 b j 0)).toInt.toNat 99999, by omega⟩ k) := by
  unfold Host.gather
  congr 1
  funext a
  refine Fin.ext ?_
  show GatherDims.start _ (ix3 b j k) idx a + GatherDims.batchCoord _ (ix3 b j k) a + GatherDims.offCoord _ (ix3 b j k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S100000x16_S1024x5x1_S1024x5x16_2_0_n_n_0_2_116.startIndexMap from List.mem_singleton.mpr rfl)]
    have e : GatherDims.siIdx gather_S100000x16_S1024x5x1_S1024x5x16_2_0_n_n_0_2_116 (ix3 b j k)
        ⟨List.idxOf (0 : Fin 2) gather_S100000x16_S1024x5x1_S1024x5x16_2_0_n_n_0_2_116.startIndexMap, List.idxOf_lt_length_iff.2 (List.mem_singleton.mpr rfl)⟩ = ix3 b j 0 := by
      funext c
      fin_cases c <;> rfl
    show min (idx (GatherDims.siIdx _ _ ⟨List.idxOf (0 : Fin 2) _, _⟩)).toInt.toNat _ = min _ _
    rw [e]
    rfl
  · unfold GatherDims.start
    rw [dif_neg (show ¬ (1 : Fin 2) ∈ gather_S100000x16_S1024x5x1_S1024x5x16_2_0_n_n_0_2_116.startIndexMap by decide)]
    unfold GatherDims.offCoord
    rw [dif_pos (show (1 : Fin 2) ∈ GatherDims.sKept gather_S100000x16_S1024x5x1_S1024x5x16_2_0_n_n_0_2_116 by decide)]
    simp only [Nat.zero_add]
    rfl

/-- A word below 100000 is not negative, so it isn't counted from the end. -/
theorem wrapped_at (ix : S1024x5.Idx → BitVec 32) (b : Fin 1024) (j : Fin 5) (hb : (ix (ix2 b j)).toNat < 100000) : wrapped ix (ix3 b j 0) = ix (ix2 b j) := by
  unfold wrapped
  pointwise
  have a : BitVec.slt (ix (ix2 b j)) 0#32 = false := by
    rw [BitVec.slt_eq_decide, BitVec.toInt_eq_toNat_of_lt (by omega)]; simp
  unfold Scalar.select
  rw [if_neg]
  show ¬ BitVec.ofBool (BitVec.slt (ix (ix2 b j)) 0#32) = 1
  rw [a]; decide

/-- Such a word passes the reference's check. -/
theorem passes (w : BitVec 32) (h : w.toNat < 100000) : IntOp.andi (IntOp.cmpi .sge w 0#32) (IntOp.cmpi .sle w 99999#32) = 1#1 := by
  have h1 : w.toInt = w.toNat := BitVec.toInt_eq_toNat_of_lt (by omega)
  have a : BitVec.sle 0#32 w = true := by rw [BitVec.sle_eq_decide, h1]; simp
  have c : BitVec.sle w 99999#32 = true := by rw [BitVec.sle_eq_decide, h1]; simp; omega
  show IntOp.andi (BitVec.ofBool (BitVec.sle 0#32 w)) (BitVec.ofBool (BitVec.sle w 99999#32)) = 1#1
  rw [a, c]; rfl

theorem taken_apply (ix : S1024x5.Idx → BitVec 32) (tb : S100000x16.Idx → Elt Ideal .f32) (b : Fin 1024) (j : Fin 5) (k : Fin 16) (hb : (ix (ix2 b j)).toNat < 100000) :
    taken ix tb (ix3 b j k) = tb (ix2 ⟨(ix (ix2 b j)).toNat, hb⟩ k) := by
  have hw := wrapped_at ix b j hb
  unfold taken
  generalize wrapped ix = W at hw
  pointwise
  rw [gather_at]
  have hf : Finset.fold IntOp.andi (1#1) (fun x : Fin 1 => IntOp.andi (IntOp.cmpi .sge (W (ix3 b j x)) 0#32) (IntOp.cmpi .sle (W (ix3 b j x)) 99999#32)) Finset.univ = 1#1 := by
    rw [Finset.univ_unique, Finset.fold_singleton, show (default : Fin 1) = 0 from rfl, hw, passes _ hb]; rfl
  rw [hf]
  show tb _ = tb _
  congr 2
  refine Fin.ext ?_
  show min (W (ix3 b j 0)).toInt.toNat 99999 = _
  rw [hw, BitVec.toInt_eq_toNat_of_lt (by omega)]
  show min ((ix (ix2 b j)).toNat : ℤ).toNat 99999 = (ix (ix2 b j)).toNat
  omega

theorem result_apply (ix tb w1 c1 w2 c2) (b : Fin 1024) (n : Fin 100000) : result ix tb w1 c1 w2 c2 (ix2 b n) =
  (∑ h : Fin 64, max (∑ x : Fin 80, taken ix tb (ix3 b ⟨x.val / 16, by omega⟩ ⟨x.val % 16, by omega⟩) * w1 (ix2 x h) + c1 (ix1 h)) 0 * w2 (ix2 h n)) + c2 (ix1 n) := by
  unfold result
  pointwise

end Cert.Proof.Lookup

end
-- ==== Proof.Value.lean ====
/-
  Over the extended reals: the kernel's result is the reference's, at every index.
-/
module

public import proofs.«01_k».proof.Proof.Run
public import proofs.«01_k».proof.Proof.Output
public import proofs.«01_k».proof.Proof.Lookup

@[expose] public section

set_option maxRecDepth 16384

noncomputable section

namespace Cert.Proof.Value

open Cert.KernelIdeal Cert.KernelIdeal.Gen Cert.Proof.Setup Cert.Proof.Region Cert.Proof.Main Cert.Proof.Run Cert.Proof.Output Cert.Proof.Block

open Idealize.ShloMosaic Idealize.ShloMosaic.TcCoe

variable (m : (ℓ : Loc nD τ sig) → Buf (Elt Ideal) ℓ)

/-- The arguments of device `d`. -/
abbrev a0 (d : Dev nD) : S1024x5.Idx → BitVec 32 := m ((d.tc : Thread nD τ).loc main_arg0)
abbrev a1 (d : Dev nD) : FVec Ideal S100000x16 .f32 := m ((d.tc : Thread nD τ).loc main_arg1)
abbrev a2 (d : Dev nD) : FVec Ideal S80x64 .f32 := m ((d.tc : Thread nD τ).loc main_arg2)
abbrev a3 (d : Dev nD) : FVec Ideal S64 .f32 := m ((d.tc : Thread nD τ).loc main_arg3)
abbrev a4 (d : Dev nD) : FVec Ideal S64x100000 .f32 := m ((d.tc : Thread nD τ).loc main_arg4)
abbrev a5 (d : Dev nD) : FVec Ideal S100000 .f32 := m ((d.tc : Thread nD τ).loc main_arg5)

/-- Entry `1024 j + b` of the list of indices is the index of word `j` of row `b`. -/
theorem idxs_at (d : Dev nD) (b : Fin 1024) (j : Fin 5) : idxs m d (ix1 ⟨1024 * j.val + b.val, by omega⟩) = a0 m d (ix2 b j) := by
  unfold idxs idxT
  pointwise

/-- The gathered array at row `k` and the column of that entry: the entry's row of the table, at `k`. -/
theorem rows_at {m} (h : InRange m) (d : Dev nD) (b : Fin 1024) (j : Fin 5) (k : Fin 16) :
    rows m d (ix2 k ⟨1024 * j.val + b.val, by omega⟩) = a1 m d (ix2 ⟨(a0 m d (ix2 b j)).toNat, h d (ix2 b j)⟩ k) := by
  show tbl m d (ix2 k ⟨(idxs m d (ix1 ⟨1024 * j.val + b.val, _⟩)).toNat % 100000, _⟩) = _
  unfold tbl
  pointwise
  show a1 m d _ = a1 m d _
  congr 2
  refine Fin.ext ?_
  show (idxs m d (ix1 ⟨1024 * j.val + b.val, _⟩)).toNat % 100000 = (a0 m d (ix2 b j)).toNat
  rw [idxs_at]
  exact Nat.mod_eq_of_lt (h d (ix2 b j))

theorem b1_at (d : Dev nD) (h : Fin 64) : b1 m d (ix2 0 h) = a3 m d (ix1 h) := by
  unfold b1
  pointwise

theorem b2_at (d : Dev nD) (n : Fin 100000) : b2 m d (ix2 0 n) = a5 m d (ix1 n) := by
  unfold b2
  refine (shapeCast_addUnit_apply ![100000] (a5 m d) shapeCasts_S100000_S1x100000 (ix2 0 n)).trans (congrArg (a5 m d) ?_)
  funext a
  exact match a with | ⟨0, _⟩ => rfl

/-- A sum over 80 rows of weights, 16 of each word. -/
theorem sum80 (g : Fin 80 → EReal) : ∑ x, g x = ∑ j : Fin 5, ∑ k : Fin 16, g ⟨16 * j.val + k.val, by omega⟩ := by
  rw [← Finset.sum_product', Finset.univ_product_univ]
  refine (Fintype.sum_equiv (finProdFinEquiv (m := 5) (n := 16)) _ _ fun p => ?_).symm
  congr 1
  refine Fin.ext ?_
  show 16 * p.1.val + p.2.val = p.2.val + 16 * p.1.val
  omega

/-- The hidden layer that the kernel computes. -/
theorem hid_at {m} (h : InRange m) (d : Dev nD) (b : Fin 1024) (c : Fin 64) :
    hid (Vc m) d (ix2 b c)
      = max ((∑ x : Fin 80, Lookup.taken (a0 m d) (a1 m d) (ix3 b ⟨x.val / 16, by omega⟩ ⟨x.val % 16, by omega⟩) * a2 m d (ix2 x c)) + a3 m d (ix1 c)) 0 := by
  unfold hid
  rw [Vc_v3, Vc_arg2, Vc_v4]
  refine (hidden_apply _ _ _ b c).trans ?_
  rw [b1_at, sum80, add_comm]
  congr 2
  refine Finset.sum_congr rfl fun j _ => ?_
  unfold Block.part
  refine Finset.sum_congr rfl fun k _ => ?_
  congr 1
  refine (rows_at h d b j k).trans ?_
  rw [← Lookup.taken_apply (a0 m d) (a1 m d) b j k (h d (ix2 b j))]
  congr 2 <;> refine Fin.ext ?_
  · show j.val = (16 * j.val + k.val) / 16; omega
  · show k.val = (16 * j.val + k.val) % 16; omega

/-- What the kernel leaves is the reference's result of the same arguments. -/
theorem result_eq {m} (h : InRange m) (d : Dev nD) (f : S100000x1024.Idx → Elt Ideal .f32) (hf : (rd m d).ArrAt 5 cfg1.N f) :
    transpose S1024x100000 [1, 0] f transposes_S100000x1024_S1024x100000_1_0 = Lookup.result (a0 m d) (a1 m d) (a2 m d) (a3 m d) (a4 m d) (a5 m d) := by
  funext i
  obtain ⟨b, n, rfl⟩ : ∃ (b : Fin 1024) (n : Fin 100000), i = ix2 b n := ⟨i 0, i 1, ValueIdx.eq_ix2 i⟩
  rw [Lookup.result_apply]
  obtain ⟨x, y, e⟩ := out_at (Vc m) (Rw (F := Ideal)) d f hf n b
  refine Eq.trans (b := f (ix2 n b)) (by pointwise) (e.trans ?_)
  refine (pay2_apply _ _ _ (rowOf n) b).trans ?_
  refine congrArg₂ (· + ·) (Finset.sum_congr rfl fun c _ => ?_) ?_
  · refine (congrArg₂ (· * ·) ((w2At_apply (Vc m) d n x c).trans (by rw [Vc_arg4])) (hid_at h d b c)).trans (mul_comm _ _)
  · exact (b2At_apply (Vc m) d n y).trans ((congrFun (Vc_v5 m d) _).trans (b2_at m d n))

end Cert.Proof.Value

end
-- ==== Proof.Equation.lean ====
/-
  The equation: from the same arguments, the kernel and the reference leave the same result over the extended reals.
-/
module

public import proofs.«01_k».proof.Proof.Frames
public import proofs.«01_k».proof.Proof.Value

@[expose] public section

set_option maxRecDepth 16384

noncomputable section

namespace Cert.Proof.Equation

open Idealize.ShloMosaic Idealize.ShloMosaic.TcCoe Idealize.SL.Sem
open Cert.Proof.Run Cert.Proof.Frames Cert.Proof.Value

/-- For indices in range the two programs both end with the reference's function of the arguments. -/
theorem same_result : Cert.algebraic_KernelIdeal_ReferenceIdeal := by
  intro m g m' g' hpre hagree
  have hin : InRange m := fun d j => lt_of_pre (hpre d) j
  refine ⟨fun c => Lookup.result (a0 m c) (a1 m c) (a2 m c) (a3 m c) (a4 m c) (a5 m c), ?_, ?_⟩
  · refine (θ_run Cert.KernelIdeal.defs _ _).mono (fun r hr c => ?_) (run_main (F := Ideal) m g hin)
    obtain ⟨kept, f, hf, e⟩ := hr.1 c
    exact ⟨e.trans (result_eq hin c f hf), kept⟩
  · refine (θ_run Cert.ReferenceIdeal.defs _ _).mono (fun r hr c => ⟨(hr c).1.trans ?_, (hr c).2⟩) (Lookup.run_result m' g')
    obtain ⟨e0, e1, e2, e3, e4, e5⟩ := hagree c
    rw [e0, e1, e2, e3, e4, e5]

end Cert.Proof.Equation

end
-- ==== Proof.lean ====
module

public import proofs.«01_k».proof.Defs
public import proofs.«01_k».proof.Proof.Gen.Kernel
public import proofs.«01_k».proof.Proof.Gen.ReferenceIdeal.Run
public import proofs.«01_k».proof.Proof.Gen.Pre_idx_in_vocab
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Plain
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_idx_in_vocab.Gen.facts,
  Frames.frame_kernel, Frames.frame_ideal, Plain.frame_reference, fun m ρ _ => Plain.frame_reference m ρ trivial, trivial, Equation.same_result⟩

end Cert.Proof

end
